-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_masks [hPre_full_masks : Cert.Pre_full_masks.Facts] (m : (ℓ : Loc Cert.KernelIdeal.nD Cert.KernelIdeal.τ Cert.KernelIdeal.sig) → Buf (Elt Ideal) ℓ) : Prop :=
  ∀ c : Dev Cert.KernelIdeal.nD,
    (Cert.Pre_full_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_full_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_full_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_full_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_masks [hPre_full_masks : Cert.Pre_full_masks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_full_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_full_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_full_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_full_masks [hKernelIdeal : Cert.KernelIdeal.Facts] [hPre_full_masks : Cert.Pre_full_masks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_masks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_full_masks [hReferenceIdeal : Cert.ReferenceIdeal.Facts] [hPre_full_masks : Cert.Pre_full_masks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_masks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_full_masks [hKernelIdeal : Cert.KernelIdeal.Facts] [hReferenceIdeal : Cert.ReferenceIdeal.Facts] [hPre_full_masks : Cert.Pre_full_masks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_masks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_full_masks : Cert.Pre_full_masks.Facts),
    quiescent_Kernel (hKernel := hKernel)
    ∧ quiescent_KernelIdeal (hKernelIdeal := hKernelIdeal)
    ∧ quiescent_KernelIdeal_pre_full_masks (hKernelIdeal := hKernelIdeal) (hPre_full_masks := hPre_full_masks)
    ∧ quiescent_ReferenceIdeal (hReferenceIdeal := hReferenceIdeal)
    ∧ quiescent_ReferenceIdeal_pre_full_masks (hReferenceIdeal := hReferenceIdeal) (hPre_full_masks := hPre_full_masks)
    ∧ preserves_Kernel_KernelIdeal
    ∧ algebraic_KernelIdeal_ReferenceIdeal_pre_full_masks (hKernelIdeal := hKernelIdeal) (hReferenceIdeal := hReferenceIdeal) (hPre_full_masks := hPre_full_masks)
-- ==== Pre_full_masks.lean ====
abbrev S8x64x1024 : Shape := ⟨3, ![8, 64, 1024]⟩
abbrev S8x36x1024 : Shape := ⟨3, ![8, 36, 1024]⟩
abbrev S8x64 : Shape := ⟨2, ![8, 64]⟩
abbrev S8x36 : Shape := ⟨2, ![8, 36]⟩
abbrev S8x16x1536 : Shape := ⟨3, ![8, 16, 1536]⟩
abbrev S8x16x10x768 : Shape := ⟨4, ![8, 16, 10, 768]⟩
abbrev S8x16 : Shape := ⟨2, ![8, 16]⟩
abbrev S768x1024 : Shape := ⟨2, ![768, 1024]⟩
abbrev S1024 : Shape := ⟨1, ![1024]⟩
abbrev S1024x1 : Shape := ⟨2, ![1024, 1]⟩
abbrev S1 : Shape := ⟨1, ![1]⟩
abbrev S5x20 : Shape := ⟨2, ![5, 20]⟩
abbrev S6972x1024 : Shape := ⟨2, ![6972, 1024]⟩
abbrev S1024x1024 : Shape := ⟨2, ![1024, 1024]⟩
abbrev S_ : Shape := ⟨0, ![]⟩

class Facts : Prop where
  bcast_S_S8x64 : S_.BroadcastsInDim S8x64 (![] : Fin 0 → Fin S8x64.rank)
  bcast_S_S8x36 : S_.BroadcastsInDim S8x36 (![] : Fin 0 → Fin S8x36.rank)
  bcast_S_S8x16 : S_.BroadcastsInDim S8x16 (![] : Fin 0 → Fin S8x16.rank)

variable [Facts]

def fn {F : FTy → Type} [FloatOps F] (main_arg0 : FVec F S8x64x1024 .f32) (main_arg1 : FVec F S8x36x1024 .f32) (main_arg2 : FVec F S8x64 .f32) (main_arg3 : FVec F S8x36 .f32) (main_arg4 : FVec F S8x16x1536 .f32) (main_arg5 : FVec F S8x16x10x768 .f32) (main_arg6 : IVec S8x16 32) (main_arg7 : FVec F S8x16 .f32) (main_arg8 : FVec F S768x1024 .f32) (main_arg9 : FVec F S1024 .f32) (main_arg10 : FVec F S1024x1 .f32) (main_arg11 : FVec F S1 .f32) (main_arg12 : FVec F S5x20 .f32) (main_arg13 : FVec F S6972x1024 .f32) (main_arg14 : FVec F S1024 .f32) (main_arg15 : FVec F S1024x1024 .f32) (main_arg16 : FVec F S1024 .f32) (main_arg17 : FVec F S1024x1 .f32) (main_arg18 : FVec F S1 .f32) : IVec S8x64 1 × IVec S8x36 1 × IVec S8x16 1 × IVec S8x16 1 :=
  let main_cst : FVec F S_ .f32 := constant S_ .f32 0x3F800000#32
  let main_v0 : FVec F S8x64 .f32 := broadcastInDim S8x64 ![] bcast_S_S8x64 main_cst
  let main_v1 : IVec S8x64 1 := cmpf .oeq main_arg2 main_v0
  let main_cst_0 : FVec F S_ .f32 := constant S_ .f32 0x3F800000#32
  let main_v2 : FVec F S8x36 .f32 := broadcastInDim S8x36 ![] bcast_S_S8x36 main_cst_0
  let main_v3 : IVec S8x36 1 := cmpf .oeq main_arg3 main_v2
  let main_cst_1 : FVec F S_ .f32 := constant S_ .f32 0x3F800000#32
  let main_v4 : FVec F S8x16 .f32 := broadcastInDim S8x16 ![] bcast_S_S8x16 main_cst_1
  let main_v5 : IVec S8x16 1 := cmpf .oeq main_arg7 main_v4
  let main_c : IVec S_ 32 := constantI S_ 32 0#32
  let main_v6 : IVec S8x16 32 := broadcastInDim S8x16 ![] bcast_S_S8x16 main_c
  let main_v7 : IVec S8x16 1 := cmpi .sge main_arg6 main_v6
  (main_v1, main_v3, main_v5, main_v7)
-- ==== Kernel.lean ====
abbrev S8x64x1024 : Shape := ⟨3, ![8, 64, 1024]⟩
abbrev S8x36x1024 : Shape := ⟨3, ![8, 36, 1024]⟩
abbrev S8x64 : Shape := ⟨2, ![8, 64]⟩
abbrev S8x36 : Shape := ⟨2, ![8, 36]⟩
abbrev S8x16x1536 : Shape := ⟨3, ![8, 16, 1536]⟩
abbrev S8x16x10x768 : Shape := ⟨4, ![8, 16, 10, 768]⟩
abbrev S8x16 : Shape := ⟨2, ![8, 16]⟩
abbrev S768x1024 : Shape := ⟨2, ![768, 1024]⟩
abbrev S1024 : Shape := ⟨1, ![1024]⟩
abbrev S1024x1 : Shape := ⟨2, ![1024, 1]⟩
abbrev S1 : Shape := ⟨1, ![1]⟩
abbrev S5x20 : Shape := ⟨2, ![5, 20]⟩
abbrev S6972x1024 : Shape := ⟨2, ![6972, 1024]⟩
abbrev S1024x1024 : Shape := ⟨2, ![1024, 1024]⟩
abbrev S128x1536 : Shape := ⟨2, ![128, 1536]⟩
abbrev S128x10x768 : Shape := ⟨3, ![128, 10, 768]⟩
abbrev S128x1 : Shape := ⟨2, ![128, 1]⟩
abbrev S512x1024 : Shape := ⟨2, ![512, 1024]⟩
abbrev S288x1024 : Shape := ⟨2, ![288, 1024]⟩
abbrev S1x1024 : Shape := ⟨2, ![1, 1024]⟩
abbrev S1x1 : Shape := ⟨2, ![1, 1]⟩
abbrev S128x2324 : Shape := ⟨2, ![128, 2324]⟩
abbrev S128x1024 : Shape := ⟨2, ![128, 1024]⟩
abbrev S8x8 : Shape := ⟨2, ![8, 8]⟩
abbrev S2324x1024 : Shape := ⟨2, ![2324, 1024]⟩
abbrev S_ : Shape := ⟨0, ![]⟩
abbrev S128x1x768 : Shape := ⟨3, ![128, 1, 768]⟩
abbrev S128x768 : Shape := ⟨2, ![128, 768]⟩
abbrev S128x10 : Shape := ⟨2, ![128, 10]⟩
abbrev S128 : Shape := ⟨1, ![128]⟩
abbrev S128x20 : Shape := ⟨2, ![128, 20]⟩
abbrev S1x20 : Shape := ⟨2, ![1, 20]⟩
abbrev S36x1024 : Shape := ⟨2, ![36, 1024]⟩
abbrev S512x36 : Shape := ⟨2, ![512, 36]⟩
abbrev S8x64x36 : Shape := ⟨3, ![8, 64, 36]⟩
abbrev S8x64x1 : Shape := ⟨3, ![8, 64, 1]⟩
abbrev S8 : Shape := ⟨1, ![8]⟩
abbrev S8x1x36 : Shape := ⟨3, ![8, 1, 36]⟩
abbrev S8x1 : Shape := ⟨2, ![8, 1]⟩
abbrev S128x4 : Shape := ⟨2, ![128, 4]⟩
abbrev S128x2328 : Shape := ⟨2, ![128, 2328]⟩
abbrev S2328x1024 : Shape := ⟨2, ![2328, 1024]⟩
abbrev S8x16x128 : Shape := ⟨3, ![8, 16, 128]⟩
abbrev S1x16x128 : Shape := ⟨3, ![1, 16, 128]⟩
abbrev S1x16 : Shape := ⟨2, ![1, 16]⟩
abbrev S128x16 : Shape := ⟨2, ![128, 16]⟩
abbrev S1x2324 : Shape := ⟨2, ![1, 2324]⟩
abbrev S8x16x1 : Shape := ⟨3, ![8, 16, 1]⟩
abbrev S8x16x16 : Shape := ⟨3, ![8, 16, 16]⟩
abbrev S16x1 : Shape := ⟨2, ![16, 1]⟩
abbrev S16x128 : Shape := ⟨2, ![16, 128]⟩
abbrev S1x8x1 : Shape := ⟨3, ![1, 8, 1]⟩
abbrev S1x1x1 : Shape := ⟨3, ![1, 1, 1]⟩

abbrev nBuf : Space → Nat
  | .hbm => 40
  | .vmem => 32
  | .smem => 0
  | _ => 0

abbrev bufTy : (tb : Table) → Fin (tcTables nBuf tb) → BufTy
  | .hbm, ⟨0, _⟩ => ⟨S8x64x1024, .f32⟩
  | .hbm, ⟨1, _⟩ => ⟨S8x36x1024, .f32⟩
  | .hbm, ⟨2, _⟩ => ⟨S8x64, .f32⟩
  | .hbm, ⟨3, _⟩ => ⟨S8x36, .f32⟩
  | .hbm, ⟨4, _⟩ => ⟨S8x16x1536, .f32⟩
  | .hbm, ⟨5, _⟩ => ⟨S8x16x10x768, .f32⟩
  | .hbm, ⟨6, _⟩ => ⟨S8x16, .i32⟩
  | .hbm, ⟨7, _⟩ => ⟨S8x16, .f32⟩
  | .hbm, ⟨8, _⟩ => ⟨S768x1024, .f32⟩
  | .hbm, ⟨9, _⟩ => ⟨S1024, .f32⟩
  | .hbm, ⟨10, _⟩ => ⟨S1024x1, .f32⟩
  | .hbm, ⟨11, _⟩ => ⟨S1, .f32⟩
  | .hbm, ⟨12, _⟩ => ⟨S5x20, .f32⟩
  | .hbm, ⟨13, _⟩ => ⟨S6972x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1, .f32⟩
  | .hbm, ⟨18, _⟩ => ⟨S1, .f32⟩
  | .hbm, ⟨19, _⟩ => ⟨S128x1536, .f32⟩
  | .hbm, ⟨20, _⟩ => ⟨S128x10x768, .f32⟩
  | .hbm, ⟨21, _⟩ => ⟨S8x16, .f32⟩
  | .hbm, ⟨22, _⟩ => ⟨S128x1, .f32⟩
  | .hbm, ⟨23, _⟩ => ⟨S512x1024, .f32⟩
  | .hbm, ⟨24, _⟩ => ⟨S288x1024, .f32⟩
  | .hbm, ⟨25, _⟩ => ⟨S1x1024, .f32⟩
  | .hbm, ⟨26, _⟩ => ⟨S1x1, .f32⟩
  | .hbm, ⟨27, _⟩ => ⟨S1x1024, .f32⟩
  | .hbm, ⟨28, _⟩ => ⟨S1x1024, .f32⟩
  | .hbm, ⟨29, _⟩ => ⟨S1x1, .f32⟩
  | .hbm, ⟨30, _⟩ => ⟨S128x2324, .f32⟩
  | .hbm, ⟨31, _⟩ => ⟨S128x2324, .bf16⟩
  | .hbm, ⟨32, _⟩ => ⟨S128x1024, .f32⟩
  | .hbm, ⟨33, _⟩ => ⟨S128x1024, .f32⟩
  | .hbm, ⟨34, _⟩ => ⟨S8x8, .f32⟩
  | .hbm, ⟨35, _⟩ => ⟨S2324x1024, .bf16⟩
  | .hbm, ⟨36, _⟩ => ⟨S1024x1024, .bf16⟩
  | .hbm, ⟨37, _⟩ => ⟨S8x16x128, .f32⟩
  | .hbm, ⟨38, _⟩ => ⟨S1x1, .f32⟩
  | .hbm, ⟨39, _⟩ => ⟨S_, .f32⟩
  | .local _ .vmem, ⟨0, _⟩ => ⟨S128x1536, .f32⟩
  | .local _ .vmem, ⟨1, _⟩ => ⟨S128x10x768, .f32⟩
  | .local _ .vmem, ⟨2, _⟩ => ⟨S128x1, .f32⟩
  | .local _ .vmem, ⟨3, _⟩ => ⟨S512x1024, .f32⟩
  | .local _ .vmem, ⟨4, _⟩ => ⟨S288x1024, .f32⟩
  | .local _ .vmem, ⟨5, _⟩ => ⟨S768x1024, .f32⟩
  | .local _ .vmem, ⟨6, _⟩ => ⟨S1x1024, .f32⟩
  | .local _ .vmem, ⟨7, _⟩ => ⟨S1024x1, .f32⟩
  | .local _ .vmem, ⟨8, _⟩ => ⟨S1x1, .f32⟩
  | .local _ .vmem, ⟨9, _⟩ => ⟨S5x20, .f32⟩
  | .local _ .vmem, ⟨10, _⟩ => ⟨S128x2324, .f32⟩
  | .local _ .vmem, ⟨11, _⟩ => ⟨S128x2324, .bf16⟩
  | .local _ .vmem, ⟨12, _⟩ => ⟨S128x1024, .f32⟩
  | .local _ .vmem, ⟨13, _⟩ => ⟨S128x1024, .f32⟩
  | .local _ .vmem, ⟨14, _⟩ => ⟨S8x8, .f32⟩
  | .local _ .vmem, ⟨15, _⟩ => ⟨S2324x1024, .bf16⟩
  | .local _ .vmem, ⟨16, _⟩ => ⟨S6972x1024, .f32⟩
  | .local _ .vmem, ⟨17, _⟩ => ⟨S128x2324, .f32⟩
  | .local _ .vmem, ⟨18, _⟩ => ⟨S128x2324, .bf16⟩
  | .local _ .vmem, ⟨19, _⟩ => ⟨S2324x1024, .bf16⟩
  | .local _ .vmem, ⟨20, _⟩ => ⟨S1024x1024, .bf16⟩
  | .local _ .vmem, ⟨21, _⟩ => ⟨S1024x1, .f32⟩
  | .local _ .vmem, ⟨22, _⟩ => ⟨S128x1024, .f32⟩
  | .local _ .vmem, ⟨23, _⟩ => ⟨S128x1024, .f32⟩
  | .local _ .vmem, ⟨24, _⟩ => ⟨S1x1024, .f32⟩
  | .local _ .vmem, ⟨25, _⟩ => ⟨S1x1024, .f32⟩
  | .local _ .vmem, ⟨26, _⟩ => ⟨S1x1, .f32⟩
  | .local _ .vmem, ⟨27, _⟩ => ⟨S1x16x128, .f32⟩
  | .local _ .vmem, ⟨28, _⟩ => ⟨S1x16x128, .f32⟩
  | .local _ .vmem, ⟨29, _⟩ => ⟨S8x8, .f32⟩
  | .local _ .vmem, ⟨30, _⟩ => ⟨S8x16x128, .f32⟩
  | .local _ .vmem, ⟨31, _⟩ => ⟨S1x1, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev main_v11_2 : Ref sig .tc := ⟨.hbm, 32, rfl⟩
abbrev main_v11_3 : Ref sig .tc := ⟨.hbm, 33, rfl⟩
abbrev main_v11_4 : Ref sig .tc := ⟨.hbm, 34, rfl⟩
abbrev main_v11_5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg10_1 : Ref sig .tc := ⟨.vmem, 28, rfl⟩
abbrev cc2_stg0_0 : Ref sig .tc := ⟨.vmem, 29, rfl⟩
abbrev cc2_stg1_0 : Ref sig .tc := ⟨.vmem, 30, rfl⟩
abbrev cc2_stg2_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem10_1 : DmaSem sig := 28
abbrev cc2_sem0_0 : DmaSem sig := 29
abbrev cc2_sem1_0 : DmaSem sig := 30
abbrev cc2_sem2_0 : DmaSem sig := 31

abbrev nD : Nat := 1
abbrev τ : Topo := Topo.v7x

variable {F : FTy → Type} [FloatOps F]

abbrev grid0 : Pipeline.Grid := .none

abbrev stage0_0 : Fin 1 → Memref sig .tc .vmem S128x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x10x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S288x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x2324 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x2324 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2324x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev grid1 : Pipeline.Grid := ⟨1, ![8], ![false]⟩

@[reducible] def k1_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k1_off1 (i : grid1.Coords) (k1_t1 : Fin k1_t1_loop.trips) : Fin 2 → Nat :=
  let arg0 : BitVec 32 := BitVec.ofNat 32 (i 0).val
  let c16_i32_9 : BitVec 32 := 16#32
  let v22 : BitVec 32 := Scalar.muli arg0 c16_i32_9
  let c0_i32 : BitVec 32 := 0#32
  let c1_i32 : BitVec 32 := 1#32
  let arg12 : BitVec 32 := Scf.iv c0_i32 c1_i32 k1_t1
  let v23 : BitVec 32 := Scalar.addi v22 arg12
  let v24 : Index := Scalar.indexCast v23
  let c0_10 : Index := 0#32
  ![v24.toNat, 0]
def k1_off2 (i : grid1.Coords) (k1_t1 : Fin k1_t1_loop.trips) : Fin 2 → Nat :=
  let arg0 : BitVec 32 := BitVec.ofNat 32 (i 0).val
  let c16_i32_9 : BitVec 32 := 16#32
  let v22 : BitVec 32 := Scalar.muli arg0 c16_i32_9
  let c0_i32 : BitVec 32 := 0#32
  let c1_i32 : BitVec 32 := 1#32
  let arg12 : BitVec 32 := Scf.iv c0_i32 c1_i32 k1_t1
  let v23 : BitVec 32 := Scalar.addi v22 arg12
  let v38 : Index := Scalar.indexCast v23
  let c0_18 : Index := 0#32
  ![v38.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S128x2324 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x2324 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2324x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x16x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := .none

abbrev stage2_0 : Fin 1 → Memref sig .tc .vmem S8x8 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== ReferenceIdeal.lean ====
abbrev S8x64x1024 : Shape := ⟨3, ![8, 64, 1024]⟩
abbrev S8x36x1024 : Shape := ⟨3, ![8, 36, 1024]⟩
abbrev S8x64 : Shape := ⟨2, ![8, 64]⟩
abbrev S8x36 : Shape := ⟨2, ![8, 36]⟩
abbrev S8x16x1536 : Shape := ⟨3, ![8, 16, 1536]⟩
abbrev S8x16x10x768 : Shape := ⟨4, ![8, 16, 10, 768]⟩
abbrev S8x16 : Shape := ⟨2, ![8, 16]⟩
abbrev S768x1024 : Shape := ⟨2, ![768, 1024]⟩
abbrev S1024 : Shape := ⟨1, ![1024]⟩
abbrev S1024x1 : Shape := ⟨2, ![1024, 1]⟩
abbrev S1 : Shape := ⟨1, ![1]⟩
abbrev S5x20 : Shape := ⟨2, ![5, 20]⟩
abbrev S6972x1024 : Shape := ⟨2, ![6972, 1024]⟩
abbrev S1024x1024 : Shape := ⟨2, ![1024, 1024]⟩
abbrev S8x16x10x1024 : Shape := ⟨4, ![8, 16, 10, 1024]⟩
abbrev S1x1x1x1024 : Shape := ⟨4, ![1, 1, 1, 1024]⟩
abbrev S_ : Shape := ⟨0, ![]⟩
abbrev S8x16x10x1 : Shape := ⟨4, ![8, 16, 10, 1]⟩
abbrev S1x1x1x1 : Shape := ⟨4, ![1, 1, 1, 1]⟩
abbrev S10 : Shape := ⟨1, ![10]⟩
abbrev S1x1x10 : Shape := ⟨3, ![1, 1, 10]⟩
abbrev S8x16x1 : Shape := ⟨3, ![8, 16, 1]⟩
abbrev S8x16x10 : Shape := ⟨3, ![8, 16, 10]⟩
abbrev S8x16x1x1 : Shape := ⟨4, ![8, 16, 1, 1]⟩
abbrev S8x16x768 : Shape := ⟨3, ![8, 16, 768]⟩
abbrev S8x16x20 : Shape := ⟨3, ![8, 16, 20]⟩
abbrev S8x16x2324 : Shape := ⟨3, ![8, 16, 2324]⟩
abbrev S8x36x8x64 : Shape := ⟨4, ![8, 36, 8, 64]⟩
abbrev S8x8x64x36 : Shape := ⟨4, ![8, 8, 64, 36]⟩
abbrev S8x1x64x1 : Shape := ⟨4, ![8, 1, 64, 1]⟩
abbrev S1x8x1x36 : Shape := ⟨4, ![1, 8, 1, 36]⟩
abbrev S8x8x64 : Shape := ⟨3, ![8, 8, 64]⟩
abbrev S8x8x64x1 : Shape := ⟨4, ![8, 8, 64, 1]⟩
abbrev S8x8 : Shape := ⟨2, ![8, 8]⟩
abbrev S8x8x36 : Shape := ⟨3, ![8, 8, 36]⟩
abbrev S8x8x1x36 : Shape := ⟨4, ![8, 8, 1, 36]⟩
abbrev S2324x1024 : Shape := ⟨2, ![2324, 1024]⟩
abbrev S8x16x1024 : Shape := ⟨3, ![8, 16, 1024]⟩
abbrev S8x1x16x1x2324 : Shape := ⟨5, ![8, 1, 16, 1, 2324]⟩
abbrev S1x8x1x16x2324 : Shape := ⟨5, ![1, 8, 1, 16, 2324]⟩
abbrev S8x8x16x16x2324 : Shape := ⟨5, ![8, 8, 16, 16, 2324]⟩
abbrev S8x8x16x16x1024 : Shape := ⟨5, ![8, 8, 16, 16, 1024]⟩
abbrev S8x1x16x1x1024 : Shape := ⟨5, ![8, 1, 16, 1, 1024]⟩
abbrev S1x8x1x16x1024 : Shape := ⟨5, ![1, 8, 1, 16, 1024]⟩
abbrev S1x1x1x1x1024 : Shape := ⟨5, ![1, 1, 1, 1, 1024]⟩
abbrev S8x8x16x16x1 : Shape := ⟨5, ![8, 8, 16, 16, 1]⟩
abbrev S1x1x1x1x1 : Shape := ⟨5, ![1, 1, 1, 1, 1]⟩
abbrev S8x8x16x16 : Shape := ⟨4, ![8, 8, 16, 16]⟩
abbrev S8 : Shape := ⟨1, ![8]⟩
abbrev S1x8x1x16 : Shape := ⟨4, ![1, 8, 1, 16]⟩
abbrev S8x8x16 : Shape := ⟨3, ![8, 8, 16]⟩
abbrev S1x8x1 : Shape := ⟨3, ![1, 8, 1]⟩
abbrev S8x1x16 : Shape := ⟨3, ![8, 1, 16]⟩
abbrev S8x1x16x1 : Shape := ⟨4, ![8, 1, 16, 1]⟩
abbrev S8x1x1 : Shape := ⟨3, ![8, 1, 1]⟩
abbrev S1x8x16 : Shape := ⟨3, ![1, 8, 16]⟩
abbrev S8x1 : Shape := ⟨2, ![8, 1]⟩

abbrev nBuf : Space → Nat
  | .hbm => 268
  | .vmem => 0
  | .smem => 0
  | _ => 0

abbrev hbmTy0_0 (i : Nat) : BufTy := match i % 128 with
  | 0 => ⟨S8x64x1024, .f32⟩
  | 1 => ⟨S8x36x1024, .f32⟩
  | 2 => ⟨S8x64, .f32⟩
  | 3 => ⟨S8x36, .f32⟩
  | 4 => ⟨S8x16x1536, .f32⟩
  | 5 => ⟨S8x16x10x768, .f32⟩
  | 6 => ⟨S8x16, .i32⟩
  | 7 => ⟨S8x16, .f32⟩
  | 8 => ⟨S768x1024, .f32⟩
  | 9 => ⟨S1024, .f32⟩
  | 10 => ⟨S1024x1, .f32⟩
  | 11 => ⟨S1, .f32⟩
  | 12 => ⟨S5x20, .f32⟩
  | 13 => ⟨S6972x1024, .f32⟩
  | 14 => ⟨S1024, .f32⟩
  | 15 => ⟨S1024x1024, .f32⟩
  | 16 => ⟨S1024, .f32⟩
  | 17 => ⟨S1024x1, .f32⟩
  | 18 => ⟨S1, .f32⟩
  | 19 => ⟨S8x16x10x1024, .f32⟩
  | 20 => ⟨S1x1x1x1024, .f32⟩
  | 21 => ⟨S8x16x10x1024, .f32⟩
  | 22 => ⟨S8x16x10x1024, .f32⟩
  | 23 => ⟨S_, .f32⟩
  | 24 => ⟨S8x16x10x1024, .f32⟩
  | 25 => ⟨S8x16x10x1024, .f32⟩
  | 26 => ⟨S8x16x10x1, .f32⟩
  | 27 => ⟨S1x1x1x1, .f32⟩
  | 28 => ⟨S8x16x10x1, .f32⟩
  | 29 => ⟨S8x16x10x1, .f32⟩
  | 30 => ⟨S10, .i32⟩
  | 31 => ⟨S1x1x10, .i32⟩
  | 32 => ⟨S8x16x1, .i32⟩
  | 33 => ⟨S8x16x10, .i32⟩
  | 34 => ⟨S8x16x10, .i32⟩
  | 35 => ⟨S8x16x10, .i1⟩
  | 36 => ⟨S8x16x10x1, .i1⟩
  | 37 => ⟨S_, .f32⟩
  | 38 => ⟨S_, .f32⟩
  | 39 => ⟨S8x16x10x1, .f32⟩
  | 40 => ⟨S8x16x10x1, .f32⟩
  | 41 => ⟨S_, .f32⟩
  | 42 => ⟨S8x16x1, .f32⟩
  | 43 => ⟨S_, .f32⟩
  | 44 => ⟨S8x16x1, .f32⟩
  | 45 => ⟨S8x16x1, .f32⟩
  | 46 => ⟨S8x16x1x1, .f32⟩
  | 47 => ⟨S8x16x10x1, .f32⟩
  | 48 => ⟨S8x16x10x1, .f32⟩
  | 49 => ⟨S8x16x10x1, .f32⟩
  | 50 => ⟨S_, .f32⟩
  | 51 => ⟨S8x16x1, .f32⟩
  | 52 => ⟨S8x16x1x1, .f32⟩
  | 53 => ⟨S8x16x10x1, .f32⟩
  | 54 => ⟨S8x16x10x1, .f32⟩
  | 55 => ⟨S8x16x10x768, .f32⟩
  | 56 => ⟨S8x16x10x768, .f32⟩
  | 57 => ⟨S_, .f32⟩
  | 58 => ⟨S8x16x768, .f32⟩
  | 59 => ⟨S_, .i32⟩
  | 60 => ⟨S_, .i32⟩
  | 61 => ⟨S_, .i32⟩
  | 62 => ⟨S8x16, .i32⟩
  | 63 => ⟨S8x16, .i32⟩
  | 64 => ⟨S_, .i32⟩
  | 65 => ⟨S8x16, .i32⟩
  | 66 => ⟨S8x16, .i32⟩
  | 67 => ⟨S_, .i32⟩
  | 68 => ⟨S8x16, .i32⟩
  | 69 => ⟨S8x16, .i1⟩
  | 70 => ⟨S_, .i32⟩
  | 71 => ⟨S8x16, .i32⟩
  | 72 => ⟨S8x16, .i32⟩
  | 73 => ⟨S8x16, .i32⟩
  | 74 => ⟨S8x16x1, .i32⟩
  | 75 => ⟨S8x16x20, .f32⟩
  | 76 => ⟨S8x16x2324, .f32⟩
  | 77 => ⟨S8x36x8x64, .f32⟩
  | 78 => ⟨S8x8x64x36, .f32⟩
  | 79 => ⟨S8x1x64x1, .f32⟩
  | 80 => ⟨S1x8x1x36, .f32⟩
  | 81 => ⟨S8x8x64x36, .f32⟩
  | 82 => ⟨S8x8x64x36, .f32⟩
  | 83 => ⟨S8x8x64x36, .f32⟩
  | 84 => ⟨S8x8x64x36, .f32⟩
  | 85 => ⟨S_, .f32⟩
  | 86 => ⟨S8x8x64x36, .f32⟩
  | 87 => ⟨S8x8x64x36, .i1⟩
  | 88 => ⟨S_, .f32⟩
  | 89 => ⟨S_, .f32⟩
  | 90 => ⟨S8x8x64x36, .f32⟩
  | 91 => ⟨S8x8x64x36, .f32⟩
  | 92 => ⟨S1x8x1x36, .f32⟩
  | 93 => ⟨S8x8x64x36, .f32⟩
  | 94 => ⟨S8x8x64x36, .f32⟩
  | 95 => ⟨S_, .f32⟩
  | 96 => ⟨S8x8x64, .f32⟩
  | 97 => ⟨S_, .f32⟩
  | 98 => ⟨S8x8x64, .f32⟩
  | 99 => ⟨S8x8x64, .f32⟩
  | 100 => ⟨S8x8x64x1, .f32⟩
  | 101 => ⟨S8x8x64x36, .f32⟩
  | 102 => ⟨S8x8x64x36, .f32⟩
  | 103 => ⟨S8x8x64x36, .f32⟩
  | 104 => ⟨S_, .f32⟩
  | 105 => ⟨S8x8x64, .f32⟩
  | 106 => ⟨S8x8x64x1, .f32⟩
  | 107 => ⟨S8x8x64x36, .f32⟩
  | 108 => ⟨S8x8x64x36, .f32⟩
  | 109 => ⟨S8x8x64x36, .f32⟩
  | 110 => ⟨S8x8x64x36, .f32⟩
  | 111 => ⟨S_, .f32⟩
  | 112 => ⟨S8x8, .f32⟩
  | 113 => ⟨S_, .f32⟩
  | 114 => ⟨S8x8x36, .f32⟩
  | 115 => ⟨S_, .f32⟩
  | 116 => ⟨S8x8x36, .f32⟩
  | 117 => ⟨S8x8x36, .f32⟩
  | 118 => ⟨S8x8x1x36, .f32⟩
  | 119 => ⟨S8x8x64x36, .f32⟩
  | 120 => ⟨S8x8x64x36, .f32⟩
  | 121 => ⟨S8x8x64x36, .f32⟩
  | 122 => ⟨S_, .f32⟩
  | 123 => ⟨S8x8x36, .f32⟩
  | 124 => ⟨S8x8x1x36, .f32⟩
  | 125 => ⟨S8x8x64x36, .f32⟩
  | 126 => ⟨S8x8x64x36, .f32⟩
  | 127 => ⟨S8x8x64x36, .f32⟩
  | _ => ⟨S8x64x1024, .f32⟩

abbrev hbmTy0_1 (i : Nat) : BufTy := match i % 128 with
  | 0 => ⟨S8x8x64x36, .f32⟩
  | 1 => ⟨S_, .f32⟩
  | 2 => ⟨S8x8, .f32⟩
  | 3 => ⟨S8x8, .f32⟩
  | 4 => ⟨S2324x1024, .f32⟩
  | 5 => ⟨S8x16x1024, .f32⟩
  | 6 => ⟨S2324x1024, .f32⟩
  | 7 => ⟨S8x16x1024, .f32⟩
  | 8 => ⟨S8x1x16x1x2324, .f32⟩
  | 9 => ⟨S1x8x1x16x2324, .f32⟩
  | 10 => ⟨S8x8x16x16x2324, .f32⟩
  | 11 => ⟨S8x8x16x16x2324, .f32⟩
  | 12 => ⟨S8x8x16x16x2324, .f32⟩
  | 13 => ⟨S2324x1024, .f32⟩
  | 14 => ⟨S8x8x16x16x1024, .f32⟩
  | 15 => ⟨S8x1x16x1x1024, .f32⟩
  | 16 => ⟨S1x8x1x16x1024, .f32⟩
  | 17 => ⟨S8x8x16x16x1024, .f32⟩
  | 18 => ⟨S8x8x16x16x1024, .f32⟩
  | 19 => ⟨S8x8x16x16x1024, .f32⟩
  | 20 => ⟨S8x8x16x16x1024, .f32⟩
  | 21 => ⟨S1x1x1x1x1024, .f32⟩
  | 22 => ⟨S8x8x16x16x1024, .f32⟩
  | 23 => ⟨S8x8x16x16x1024, .f32⟩
  | 24 => ⟨S_, .f32⟩
  | 25 => ⟨S8x8x16x16x1024, .f32⟩
  | 26 => ⟨S8x8x16x16x1024, .f32⟩
  | 27 => ⟨S8x8x16x16x1024, .f32⟩
  | 28 => ⟨S1x1x1x1x1024, .f32⟩
  | 29 => ⟨S8x8x16x16x1024, .f32⟩
  | 30 => ⟨S8x8x16x16x1024, .f32⟩
  | 31 => ⟨S_, .f32⟩
  | 32 => ⟨S8x8x16x16x1024, .f32⟩
  | 33 => ⟨S8x8x16x16x1024, .f32⟩
  | 34 => ⟨S8x8x16x16x1, .f32⟩
  | 35 => ⟨S1x1x1x1x1, .f32⟩
  | 36 => ⟨S8x8x16x16x1, .f32⟩
  | 37 => ⟨S8x8x16x16x1, .f32⟩
  | 38 => ⟨S8x8x16x16, .f32⟩
  | 39 => ⟨S_, .f32⟩
  | 40 => ⟨S8, .f32⟩
  | 41 => ⟨S1x8x1x16, .f32⟩
  | 42 => ⟨S8x8x16x16, .f32⟩
  | 43 => ⟨S8x8x16x16, .f32⟩
  | 44 => ⟨S_, .f32⟩
  | 45 => ⟨S8x8x16, .f32⟩
  | 46 => ⟨S1x8x1, .f32⟩
  | 47 => ⟨S8x8x16, .f32⟩
  | 48 => ⟨S8x8x16, .f32⟩
  | 49 => ⟨S8x1x16, .f32⟩
  | 50 => ⟨S_, .f32⟩
  | 51 => ⟨S8x1x16, .f32⟩
  | 52 => ⟨S8x1x16, .i1⟩
  | 53 => ⟨S_, .f32⟩
  | 54 => ⟨S_, .f32⟩
  | 55 => ⟨S8x8x16, .i1⟩
  | 56 => ⟨S8x8x16, .f32⟩
  | 57 => ⟨S8x8x16, .f32⟩
  | 58 => ⟨S_, .f32⟩
  | 59 => ⟨S8x8, .f32⟩
  | 60 => ⟨S8x1x16x1, .f32⟩
  | 61 => ⟨S8x8x16x16, .f32⟩
  | 62 => ⟨S8x8x16x16, .f32⟩
  | 63 => ⟨S_, .f32⟩
  | 64 => ⟨S8x8x16, .f32⟩
  | 65 => ⟨S8x1x1, .f32⟩
  | 66 => ⟨S8x8x16, .f32⟩
  | 67 => ⟨S8x8x16, .f32⟩
  | 68 => ⟨S1x8x16, .f32⟩
  | 69 => ⟨S_, .f32⟩
  | 70 => ⟨S1x8x16, .f32⟩
  | 71 => ⟨S1x8x16, .i1⟩
  | 72 => ⟨S_, .f32⟩
  | 73 => ⟨S_, .f32⟩
  | 74 => ⟨S8x8x16, .i1⟩
  | 75 => ⟨S8x8x16, .f32⟩
  | 76 => ⟨S8x8x16, .f32⟩
  | 77 => ⟨S_, .f32⟩
  | 78 => ⟨S8x8, .f32⟩
  | 79 => ⟨S8x8, .f32⟩
  | 80 => ⟨S_, .f32⟩
  | 81 => ⟨S8x8, .f32⟩
  | 82 => ⟨S8x8, .f32⟩
  | 83 => ⟨S_, .f32⟩
  | 84 => ⟨S8, .f32⟩
  | 85 => ⟨S_, .f32⟩
  | 86 => ⟨S8, .f32⟩
  | 87 => ⟨S8, .f32⟩
  | 88 => ⟨S8x1, .f32⟩
  | 89 => ⟨S8x8, .f32⟩
  | 90 => ⟨S8x8, .f32⟩
  | 91 => ⟨S8x8, .f32⟩
  | 92 => ⟨S_, .f32⟩
  | 93 => ⟨S8, .f32⟩
  | 94 => ⟨S8x1, .f32⟩
  | 95 => ⟨S8x8, .f32⟩
  | 96 => ⟨S8x8, .f32⟩
  | 97 => ⟨S8x8, .f32⟩
  | 98 => ⟨S_, .f32⟩
  | 99 => ⟨S8, .f32⟩
  | 100 => ⟨S_, .f32⟩
  | 101 => ⟨S8, .f32⟩
  | 102 => ⟨S8, .f32⟩
  | 103 => ⟨S8x1, .f32⟩
  | 104 => ⟨S8x8, .f32⟩
  | 105 => ⟨S8x8, .f32⟩
  | 106 => ⟨S8x8, .f32⟩
  | 107 => ⟨S_, .f32⟩
  | 108 => ⟨S8, .f32⟩
  | 109 => ⟨S8x1, .f32⟩
  | 110 => ⟨S8x8, .f32⟩
  | 111 => ⟨S8x8, .f32⟩
  | 112 => ⟨S_, .f32⟩
  | 113 => ⟨S8, .f32⟩
  | 114 => ⟨S_, .f32⟩
  | 115 => ⟨S8, .f32⟩
  | 116 => ⟨S8, .f32⟩
  | 117 => ⟨S8x1, .f32⟩
  | 118 => ⟨S8x8, .f32⟩
  | 119 => ⟨S8x8, .f32⟩
  | 120 => ⟨S8x8, .f32⟩
  | 121 => ⟨S_, .f32⟩
  | 122 => ⟨S8, .f32⟩
  | 123 => ⟨S8x1, .f32⟩
  | 124 => ⟨S8x8, .f32⟩
  | 125 => ⟨S8x8, .f32⟩
  | 126 => ⟨S8x8, .f32⟩
  | 127 => ⟨S_, .f32⟩
  | _ => ⟨S8x64x1024, .f32⟩

abbrev hbmTy0_2 (i : Nat) : BufTy := match i % 128 with
  | 0 => ⟨S8, .f32⟩
  | 1 => ⟨S8, .f32⟩
  | 2 => ⟨S8x8, .f32⟩
  | 3 => ⟨S_, .f32⟩
  | 4 => ⟨S8, .f32⟩
  | 5 => ⟨S8, .f32⟩
  | 6 => ⟨S8, .f32⟩
  | 7 => ⟨S_, .f32⟩
  | 8 => ⟨S_, .f32⟩
  | 9 => ⟨S_, .f32⟩
  | 10 => ⟨S_, .f32⟩
  | 11 => ⟨S_, .f32⟩
  | _ => ⟨S8x64x1024, .f32⟩

abbrev hbmTy (i : Nat) : BufTy := match i / 128 with
  | 0 => hbmTy0_0 i
  | 1 => hbmTy0_1 i
  | 2 => hbmTy0_2 i
  | _ => ⟨S8x64x1024, .f32⟩

abbrev bufTy : (tb : Table) → Fin (tcTables nBuf tb) → BufTy
  | .hbm, ⟨i, _⟩ => hbmTy i
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_c : Ref sig .tc := ⟨.hbm, 59, rfl⟩
abbrev main_c_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v32 : Ref sig .tc := ⟨.hbm, 66, rfl⟩
abbrev main_c_6 : Ref sig .tc := ⟨.hbm, 67, rfl⟩
abbrev main_v33 : Ref sig .tc := ⟨.hbm, 68, rfl⟩
abbrev main_v34 : Ref sig .tc := ⟨.hbm, 69, rfl⟩
abbrev main_c_7 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_cst_9 : Ref sig .tc := ⟨.hbm, 88, rfl⟩
abbrev main_call2_v0 : Ref sig .tc := ⟨.hbm, 89, rfl⟩
abbrev main_call2_v1 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_10 : Ref sig .tc := ⟨.hbm, 95, rfl⟩
abbrev main_v55 : Ref sig .tc := ⟨.hbm, 96, rfl⟩
abbrev main_cst_11 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_12 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_13 : Ref sig .tc := ⟨.hbm, 111, rfl⟩
abbrev main_v68 : Ref sig .tc := ⟨.hbm, 112, rfl⟩
abbrev main_cst_14 : Ref sig .tc := ⟨.hbm, 113, rfl⟩
abbrev main_v69 : Ref sig .tc := ⟨.hbm, 114, rfl⟩
abbrev main_cst_15 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_16 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_17 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_18 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_19 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_20 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_21 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_cst_22 : Ref sig .tc := ⟨.hbm, 178, rfl⟩
abbrev main_v126 : Ref sig .tc := ⟨.hbm, 179, rfl⟩
abbrev main_v127 : Ref sig .tc := ⟨.hbm, 180, rfl⟩
abbrev main_cst_23 : Ref sig .tc := ⟨.hbm, 181, rfl⟩
abbrev main_call3_v0 : Ref sig .tc := ⟨.hbm, 182, rfl⟩
abbrev main_call3_v1 : Ref sig .tc := ⟨.hbm, 183, rfl⟩
abbrev main_call3_v2 : Ref sig .tc := ⟨.hbm, 184, rfl⟩
abbrev main_v128 : Ref sig .tc := ⟨.hbm, 185, rfl⟩
abbrev main_cst_24 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_cst_25 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_cst_26 : Ref sig .tc := ⟨.hbm, 197, rfl⟩
abbrev main_v138 : Ref sig .tc := ⟨.hbm, 198, rfl⟩
abbrev main_v139 : Ref sig .tc := ⟨.hbm, 199, rfl⟩
abbrev main_cst_27 : Ref sig .tc := ⟨.hbm, 200, rfl⟩
abbrev main_call4_v0 : Ref sig .tc := ⟨.hbm, 201, rfl⟩
abbrev main_call4_v1 : Ref sig .tc := ⟨.hbm, 202, rfl⟩
abbrev main_call4_v2 : Ref sig .tc := ⟨.hbm, 203, rfl⟩
abbrev main_v140 : Ref sig .tc := ⟨.hbm, 204, rfl⟩
abbrev main_cst_28 : Ref sig .tc := ⟨.hbm, 205, rfl⟩
abbrev main_v141 : Ref sig .tc := ⟨.hbm, 206, rfl⟩
abbrev main_v142 : Ref sig .tc := ⟨.hbm, 207, rfl⟩
abbrev main_cst_29 : Ref sig .tc := ⟨.hbm, 208, rfl⟩
abbrev main_v143 : Ref sig .tc := ⟨.hbm, 209, rfl⟩
abbrev main_v144 : Ref sig .tc := ⟨.hbm, 210, rfl⟩
abbrev main_cst_30 : Ref sig .tc := ⟨.hbm, 211, rfl⟩
abbrev main_v145 : Ref sig .tc := ⟨.hbm, 212, rfl⟩
abbrev main_cst_31 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_cst_32 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_33 : Ref sig .tc := ⟨.hbm, 226, rfl⟩
abbrev main_v157 : Ref sig .tc := ⟨.hbm, 227, rfl⟩
abbrev main_cst_34 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_cst_35 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_cst_36 : Ref sig .tc := ⟨.hbm, 240, rfl⟩
abbrev main_v168 : Ref sig .tc := ⟨.hbm, 241, rfl⟩
abbrev main_cst_37 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_cst_38 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_cst_39 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_40 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_cst_41 : Ref sig .tc := ⟨.hbm, 263, rfl⟩
abbrev main_v186 : Ref sig .tc := ⟨.hbm, 264, rfl⟩
abbrev main_v187 : Ref sig .tc := ⟨.hbm, 265, rfl⟩
abbrev main_cst_42 : Ref sig .tc := ⟨.hbm, 266, rfl⟩
abbrev main_v188 : Ref sig .tc := ⟨.hbm, 267, rfl⟩

abbrev nD : Nat := 1
abbrev τ : Topo := Topo.v7x

variable {F : FTy → Type} [FloatOps F]
-- ==== Proof.KI.Loop.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody

/-! The loop of the pair-score launch. It runs sixteen trips and carries the table of scores. One trip reads the launch's
inputs and stores nothing, so the loop's invariant is: the inputs hold what they held, and the carried table is the one
that the trips so far have made. -/

@[expose] public section

-- the trips take the launch's eleven buffers each, which needs more than the standard limits
set_option maxRecDepth 8192
set_option maxHeartbeats 4000000

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources that the runs of the program are stated over. -/
local notation "𝕄G" => MT nD τ sig Unit (Elt F) ℕ (Pipeline.UD sig nD τ) ℕ
/-! ## `cc1_coref_pairs` -/

/-- Invariants of the loop `k1_t1_loop` of the pair scores, whose trip `k1_t1` yields the next table from the carried one. -/
abbrev LoopInvTy_k1_t1 (Ix Name U Lvl : Type) [DecidableEq Ix] [DecidableEq Name] [RA.URA U] [Preorder Lvl]
    (𝒱 : Variants) (c : Dev nD) (bd : Option 𝒱.V) (E : Set Name) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole) (arg0 : BitVec 32) (init : FVec F S128x16 .f32) :=
  Idealize.ShloMosaic.LoopInv (M := MT nD τ sig Ix (Elt F) Name U Lvl) Idealize.ShloMosaic.frame (wpE defs₀ 𝒱 (c : Thread nD τ) bd) E
    k1_t1_loop.lb k1_t1_loop.ub k1_t1_loop.st k1_t1_ok init (k1_t1_body (F := F) i arg1 harg1 arg2 harg2 arg3 harg3 arg4 harg4 arg5 harg5 arg6 harg6 arg7 harg7 arg8 harg8 arg9 harg9 arg10 harg10 arg11 harg11 arg0)

/-! ### The invariant of `k1_t1_loop` -/

/-- What one trip reads: the ten inputs at their contents. -/
abbrev Trip_k1_t1 (c : Dev nD) (arg1 : Memref sig .tc .vmem S128x2324 .f32) (arg2 : Memref sig .tc .vmem S128x2324 .bf16) (arg3 : Memref sig .tc .vmem S2324x1024 .bf16) (arg4 : Memref sig .tc .vmem S1024x1024 .bf16) (arg5 : Memref sig .tc .vmem S1024x1 .f32) (arg6 : Memref sig .tc .vmem S128x1024 .f32) (arg7 : Memref sig .tc .vmem S128x1024 .f32) (arg8 : Memref sig .tc .vmem S1x1024 .f32) (arg9 : Memref sig .tc .vmem S1x1024 .f32) (arg10 : Memref sig .tc .vmem S1x1 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10))

/-- One trip from the carried table `acc`: it runs, keeps the inputs and yields some function of the table. -/
@[irreducible] def trip_k1_t1 (𝒱 : Variants) (c : Dev nD) (bd : Option 𝒱.V) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k1_t1_loop.trips) :
    { R_k1_t1 : ((FVec F S128x16 .f32) → FVec F S128x16 .f32) // ∀ (E : Set ℕ) (acc : FVec F S128x16 .f32),
      Trip_k1_t1 (F := F) c arg1 arg2 arg3 arg4 arg5 arg6 arg7 arg8 arg9 arg10 X_arg1 X_arg2 X_arg3 X_arg4 X_arg5 X_arg6 X_arg7 X_arg8 X_arg9 X_arg10
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 arg11 harg11 arg0 k acc)
          (fun yld => iprop(⌜yld = R_k1_t1 acc⌝ ∗ Trip_k1_t1 (F := F) c arg1 arg2 arg3 arg4 arg5 arg6 arg7 arg8 arg9 arg10 X_arg1 X_arg2 X_arg3 X_arg4 X_arg5 X_arg6 X_arg7 X_arg8 X_arg9 X_arg10)) } := by
  have hk : k.val < 16 := Nat.lt_of_lt_of_le k.isLt k1_t1_abs.2.1
  refine ⟨?_, fun E acc => ?run⟩
  case run =>
    unfold k1_t1_body
    iintro ⟨HR_arg1, HR_arg2, HR_arg3, HR_arg4, HR_arg5, HR_arg6, HR_arg7, HR_arg8, HR_arg9, HR_arg10⟩
    sl_exec
    sl_step
    sl_close

/-- The table that a trip yields. -/
abbrev tripR_k1_t1 (𝒱 : Variants) (c : Dev nD) (bd : Option 𝒱.V) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k1_t1_loop.trips) (acc : FVec F S128x16 .f32) : FVec F S128x16 .f32 :=
  (trip_k1_t1 (F := F) 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 k).1 acc

/-- The table after trip `k` from the table `prev` before it; past the last trip, `prev` itself. -/
@[irreducible] def st_k1_t1Step (𝒱 : Variants) (c : Dev nD) (bd : Option 𝒱.V) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (init : FVec F S128x16 .f32) (k : ℕ) (prev : FVec F S128x16 .f32) : FVec F S128x16 .f32 :=
  if h : k < k1_t1_loop.trips then
    tripR_k1_t1 (F := F) 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 ⟨k, h⟩ prev
  else prev

/-- The carried table before trip `k`, from the loop's first table `init`. -/
def st_k1_t1 (𝒱 : Variants) (c : Dev nD) (bd : Option 𝒱.V) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (init : FVec F S128x16 .f32) : ℕ → FVec F S128x16 .f32
  | 0 => init
  | k + 1 => st_k1_t1Step 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 init k (st_k1_t1 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 init k)

theorem st_k1_t1_succ (𝒱 : Variants) (c : Dev nD) (bd : Option 𝒱.V) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (init : FVec F S128x16 .f32) (k : Fin k1_t1_loop.trips) :
    st_k1_t1 (F := F) 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 init (k.val + 1)
      = (tripR_k1_t1 (F := F) 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 k (st_k1_t1 (F := F) 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 init k.val)) := by
  rw [st_k1_t1.eq_2]; unfold st_k1_t1Step; exact dif_pos k.isLt

/-- Before trip 0 the carried table is the first one. -/
theorem st_k1_t1_zero (𝒱 : Variants) (c : Dev nD) (bd : Option 𝒱.V) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (init : FVec F S128x16 .f32) :
    (st_k1_t1 (F := F) 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 init 0) = init := rfl

/-- The invariant before trip `k`: the ten inputs at their contents, and `acc` the carried table. -/
abbrev inv_k1_t1 (𝒱 : Variants) (c : Dev nD) (bd : Option 𝒱.V) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (init : FVec F S128x16 .f32) (k : ℕ) (acc : FVec F S128x16 .f32) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ ⌜acc = (st_k1_t1 (F := F) 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 init k)⌝)

set_option warn.classDefReducibility false in
/-- The loop keeps its invariant: after it the yielded table is the carried one after all trips. -/
@[sl_loop] def loopInv_k1_t1 (𝒱 : Variants) (c : Dev nD) (bd : Option 𝒱.V) (E : Set ℕ) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (init : FVec F S128x16 .f32) :
    LoopInvTy_k1_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg0 init where
  inv := inv_k1_t1 (F := F) 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 init
  step k acc := by
    iintro ⟨HR_arg1, HR_arg2, HR_arg3, HR_arg4, HR_arg5, HR_arg6, HR_arg7, HR_arg8, HR_arg9, HR_arg10, %h_acc⟩
    subst h_acc
    iapply (wp_wand_r Idealize.ShloMosaic.frame (wpE (defs₀ (F := F)) 𝒱 (c : Thread nD τ) bd) E)
    isplitl [HR_arg1 HR_arg2 HR_arg3 HR_arg4 HR_arg5 HR_arg6 HR_arg7 HR_arg8 HR_arg9 HR_arg10]
    · iapply ((trip_k1_t1 (F := F) 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 k).2 E (st_k1_t1 (F := F) 𝒱 c bd i arg1 harg1 arg2 harg2 arg3 harg3 arg4 harg4 arg5 harg5 arg6 harg6 arg7 harg7 arg8 harg8 arg9 harg9 arg10 harg10 arg11 harg11 arg0 X_arg1 X_arg2 X_arg3 X_arg4 X_arg5 X_arg6 X_arg7 X_arg8 X_arg9 X_arg10 init k))
      isplitl [HR_arg1]; · iexact HR_arg1
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      iexact HR_arg10
    · iintro %yld ⟨%h_res, HR_arg1, HR_arg2, HR_arg3, HR_arg4, HR_arg5, HR_arg6, HR_arg7, HR_arg8, HR_arg9, HR_arg10⟩
      isplitl [HR_arg1]; · iexact HR_arg1
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HR_arg10]; · iexact HR_arg10
      simp only [st_k1_t1_succ]
      ipureintro; rw [h_res]

end Cert.KernelIdeal.Run

end
-- ==== Proof.KI.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KI.Loop
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The first launch, the prologue, from any buffer contents `V` at its entry: what its body leaves in each output, and that
the body meets what the pipeline asks of it. The body copies the first classifier weight into a scratch buffer and waits
for the copy on a semaphore of its own. -/

@[expose] public section

-- blocks of thousands of rows need more than the standard limit
set_option maxRecDepth 16384

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section Regions
-- what the buffers hold when the launch is entered; the whole program fills it in
variable (V : (c : Dev nD) → (b : Ref sig .tc) → Buf (Elt F) ((c : Thread nD τ).loc b))

/-! ## The windows' blocks -/

/-- Window `w`'s block at point `t`, read from its array as entered (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether fetched there or earlier, for any
    proof data with the array of `V` (`hA`) whose body leaves the block in place (`hafter`). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether fetched there or earlier, for any
    proof data with the array of `V` (`hA`) whose body leaves the block in place (`hafter`). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether fetched there or earlier, for any
    proof data with the array of `V` (`hA`) whose body leaves the block in place (`hafter`). -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether fetched there or earlier, for any
    proof data with the array of `V` (`hA`) whose body leaves the block in place (`hafter`). -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether fetched there or earlier, for any
    proof data with the array of `V` (`hA`) whose body leaves the block in place (`hafter`). -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether fetched there or earlier, for any
    proof data with the array of `V` (`hA`) whose body leaves the block in place (`hafter`). -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, whether fetched there or earlier, for any
    proof data with the array of `V` (`hA`) whose body leaves the block in place (`hafter`). -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, whether fetched there or earlier, for any
    proof data with the array of `V` (`hA`) whose body leaves the block in place (`hafter`). -/
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, whether fetched there or earlier, for any
    proof data with the array of `V` (`hA`) whose body leaves the block in place (`hafter`). -/
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, whether fetched there or earlier, for any
    proof data with the array of `V` (`hA`) whose body leaves the block in place (`hafter`). -/
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body on any staging buffers -/

/-- One staging buffer of output window 10, to state its contents through; which one makes no difference. -/
abbrev VO0_10 : View sig .tc .vmem S128x2324 .f32 := (Memref.whole cc0_stg10_0 : Memref sig .tc .vmem S128x2324 .f32).view
/-- One staging buffer of output window 11, to state its contents through; which one makes no difference. -/
abbrev VO0_11 : View sig .tc .vmem S128x2324 .bf16 := (Memref.whole cc0_stg11_0 : Memref sig .tc .vmem S128x2324 .bf16).view
/-- One staging buffer of output window 12, to state its contents through; which one makes no difference. -/
abbrev VO0_12 : View sig .tc .vmem S128x1024 .f32 := (Memref.whole cc0_stg12_0 : Memref sig .tc .vmem S128x1024 .f32).view
/-- One staging buffer of output window 13, to state its contents through; which one makes no difference. -/
abbrev VO0_13 : View sig .tc .vmem S128x1024 .f32 := (Memref.whole cc0_stg13_0 : Memref sig .tc .vmem S128x1024 .f32).view
/-- One staging buffer of output window 14, to state its contents through; which one makes no difference. -/
abbrev VO0_14 : View sig .tc .vmem S8x8 .f32 := (Memref.whole cc0_stg14_0 : Memref sig .tc .vmem S8x8 .f32).view
/-- One staging buffer of output window 15, to state its contents through; which one makes no difference. -/
abbrev VO0_15 : View sig .tc .vmem S2324x1024 .bf16 := (Memref.whole cc0_stg15_0 : Memref sig .tc .vmem S2324x1024 .bf16).view
/-- Each window's staging buffer at point `t`, as the body is given it, and that it is whole. -/
abbrev ms0_0 (t : Fin cfg0.N) : Memref sig .tc .vmem S128x1536 .f32 := win0_0.stage (cfg0.slots t 0)
abbrev hs0_0 (t : Fin cfg0.N) : (ms0_0 t).IsWhole := hstage0_0 0
abbrev ms0_1 (t : Fin cfg0.N) : Memref sig .tc .vmem S128x10x768 .f32 := win0_1.stage (cfg0.slots t 1)
abbrev hs0_1 (t : Fin cfg0.N) : (ms0_1 t).IsWhole := hstage0_1 0
abbrev ms0_2 (t : Fin cfg0.N) : Memref sig .tc .vmem S128x1 .f32 := win0_2.stage (cfg0.slots t 2)
abbrev hs0_2 (t : Fin cfg0.N) : (ms0_2 t).IsWhole := hstage0_2 0
abbrev ms0_3 (t : Fin cfg0.N) : Memref sig .tc .vmem S512x1024 .f32 := win0_3.stage (cfg0.slots t 3)
abbrev hs0_3 (t : Fin cfg0.N) : (ms0_3 t).IsWhole := hstage0_3 0
abbrev ms0_4 (t : Fin cfg0.N) : Memref sig .tc .vmem S288x1024 .f32 := win0_4.stage (cfg0.slots t 4)
abbrev hs0_4 (t : Fin cfg0.N) : (ms0_4 t).IsWhole := hstage0_4 0
abbrev ms0_5 (t : Fin cfg0.N) : Memref sig .tc .vmem S768x1024 .f32 := win0_5.stage (cfg0.slots t 5)
abbrev hs0_5 (t : Fin cfg0.N) : (ms0_5 t).IsWhole := hstage0_5 0
abbrev ms0_6 (t : Fin cfg0.N) : Memref sig .tc .vmem S1x1024 .f32 := win0_6.stage (cfg0.slots t 6)
abbrev hs0_6 (t : Fin cfg0.N) : (ms0_6 t).IsWhole := hstage0_6 0
abbrev ms0_7 (t : Fin cfg0.N) : Memref sig .tc .vmem S1024x1 .f32 := win0_7.stage (cfg0.slots t 7)
abbrev hs0_7 (t : Fin cfg0.N) : (ms0_7 t).IsWhole := hstage0_7 0
abbrev ms0_8 (t : Fin cfg0.N) : Memref sig .tc .vmem S1x1 .f32 := win0_8.stage (cfg0.slots t 8)
abbrev hs0_8 (t : Fin cfg0.N) : (ms0_8 t).IsWhole := hstage0_8 0
abbrev ms0_9 (t : Fin cfg0.N) : Memref sig .tc .vmem S5x20 .f32 := win0_9.stage (cfg0.slots t 9)
abbrev hs0_9 (t : Fin cfg0.N) : (ms0_9 t).IsWhole := hstage0_9 0
abbrev ms0_10 (t : Fin cfg0.N) : Memref sig .tc .vmem S128x2324 .f32 := win0_10.stage (cfg0.slots t 10)
abbrev hs0_10 (t : Fin cfg0.N) : (ms0_10 t).IsWhole := hstage0_10 0
abbrev ms0_11 (t : Fin cfg0.N) : Memref sig .tc .vmem S128x2324 .bf16 := win0_11.stage (cfg0.slots t 11)
abbrev hs0_11 (t : Fin cfg0.N) : (ms0_11 t).IsWhole := hstage0_11 0
abbrev ms0_12 (t : Fin cfg0.N) : Memref sig .tc .vmem S128x1024 .f32 := win0_12.stage (cfg0.slots t 12)
abbrev hs0_12 (t : Fin cfg0.N) : (ms0_12 t).IsWhole := hstage0_12 0
abbrev ms0_13 (t : Fin cfg0.N) : Memref sig .tc .vmem S128x1024 .f32 := win0_13.stage (cfg0.slots t 13)
abbrev hs0_13 (t : Fin cfg0.N) : (ms0_13 t).IsWhole := hstage0_13 0
abbrev ms0_14 (t : Fin cfg0.N) : Memref sig .tc .vmem S8x8 .f32 := win0_14.stage (cfg0.slots t 14)
abbrev hs0_14 (t : Fin cfg0.N) : (ms0_14 t).IsWhole := hstage0_14 0
abbrev ms0_15 (t : Fin cfg0.N) : Memref sig .tc .vmem S2324x1024 .bf16 := win0_15.stage (cfg0.slots t 15)
abbrev hs0_15 (t : Fin cfg0.N) : (ms0_15 t).IsWhole := hstage0_15 0
/-- The scratch buffers, passed beside the windows. -/
abbrev scM0_0 : Memref sig .tc .vmem S6972x1024 .f32 := Memref.whole cc0_scratch0
/-- The operand that stays in main memory and that the body copies itself. -/
abbrev hbM0_0 : Memref sig .tc .hbm S6972x1024 .f32 := Memref.whole main_arg13
/-- Reference `M`'s buffer on core `c`: the type of its contents, and the buffer held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own copy semaphores; none belongs to a window. -/
abbrev osem0 : Fin 1 → SemLoc sig := fun j => (![SemLoc.dma 16] : Fin 1 → SemLoc sig) j
theorem ownSemFacts0 : Pipeline.OwnSemFacts spec0 osem0 := by decide
/-- These semaphores at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0) := by
  rw [Pipeline.ownSems0_eq_of_list c osem0 [0] (by decide) (by decide)]; rfl
/-- The operands in main memory that the body copies, as references; none is the array of a window. -/
def H0 : Finset (Ref sig .tc) := {main_arg13}
theorem H0_sub : H0 ⊆ Pipeline.restRefs sig spec0 := by decide
/-- These operands held at their contents at entry. -/
theorem hbmPts0_eq (c : Dev nD) :
    (bigSep H0 (fun b => ((c : Thread nD τ).loc b) ↦{fullShare} V c b) : sProp 𝕄) = iprop(hbPt0 c hbM0_0 (V c main_arg13)) := by
  rw [BI.bigSep_eq_bigSepL_of_eq [main_arg13] (by decide) (by decide)]; rfl

/-- The invariant of a body with copies of its own, part by part: the scratch buffers at some contents, the random
    generator's register at some state, the semaphores at zero, the operands in main memory as entered. -/
theorem PhiD0_eq (c : Dev nD) :
    (Pipeline.ΦD osem0 spec0 H0 V c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f)) ∗ (∃ r, prngReg c r) ∗ iprop(semVal ((c : Thread nD τ), SemLoc.dma 16) 0) ∗ iprop(hbPt0 c hbM0_0 (V c main_arg13))) := by
  rw [Pipeline.ΦD_eq, scopedRest0_eq, ownSems00_eq, hbmPts0_eq]; simp only [scM0_0, owns_whole]; try rfl

-- the run of the whole body needs more than the standard limit
set_option maxHeartbeats 1000000 in
/-- What the body's stores leave in each output's staging buffer, last store first, together with the proof that the body
    runs: from the inputs at their contents, the outputs and the scratch buffer at anything, the weight in main memory at
    its contents and the semaphore at zero, to the inputs, the weight and the semaphore as they were and each output with
    its stores made. -/
noncomputable def kernelRun0_A (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) :
    Σ' (L10 : List (View.Piece (Elt F) S128x2324 .f32)), Σ' (L11 : List (View.Piece (Elt F) S128x2324 .bf16)), Σ' (L12 : List (View.Piece (Elt F) S128x1024 .f32)), Σ' (L13 : List (View.Piece (Elt F) S128x1024 .f32)), Σ' (L14 : List (View.Piece (Elt F) S8x8 .f32)), Σ' (L15 : List (View.Piece (Elt F) S2324x1024 .bf16)), { LT0 : List (View.Piece (Elt F) S6972x1024 .f32) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 16) 0 ∗ hbPt0 c hbM0_0 fh0 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f LT0) ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0_coref_prologue arg0 harg0 arg1 harg1 arg2 harg2 arg3 harg3 arg4 harg4 arg5 harg5 arg6 harg6 arg7 harg7 arg8 harg8 arg9 harg9 (Memref.whole main_arg13) (Memref.isWhole_whole _) arg11 harg11 arg12 harg12 arg13 harg13 arg14 harg14 arg15 harg15 arg16 harg16 arg17 harg17 cc0_scratch1) K } := by
  refine ⟨?_, ?_, ?_, ?_, ?_, ?_, ?_, fun W K => ?run⟩
  case run =>
    simp only [cc0_coref_prologue_eq_skeleton]; unfold cc0_coref_prologue_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, Hq0, Hh0, HW, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    isplitl [Hq0]; · iexact Hq0
    isplitl [Hh0]; · iexact Hh0
    iexists _; iexact HW

/-- Output 10 is written by one store of its whole block, `S128x2324`, so the stores cover the block. -/
theorem cover0_A_10 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) (y : S128x2324.Idx) :
    ∃ pc ∈ (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).1, y ∈ pc.1.set :=
  View.cover_of_tiledL (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).1 S128x2324.size (by sl_kernel_rfl) y

/-- What the body leaves in output 10's staging buffer, read back. -/
def out0_A_10 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) : Vec F S128x2324 .f32 :=
  VO0_10.read (Elt F) (VO0_10.writes (Elt F) VO0_10.junk (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).1)

/-- Output 11 is written by one store of its whole block, `S128x2324`, so the stores cover the block. -/
theorem cover0_A_11 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) (y : S128x2324.Idx) :
    ∃ pc ∈ (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.1, y ∈ pc.1.set :=
  View.cover_of_tiledL (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.1 S128x2324.size (by sl_kernel_rfl) y

/-- What the body leaves in output 11's staging buffer, read back. -/
def out0_A_11 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) : Vec F S128x2324 .bf16 :=
  VO0_11.read (Elt F) (VO0_11.writes (Elt F) VO0_11.junk (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.1)

/-- Output 12 is written by one store of its whole block, `S128x1024`, so the stores cover the block. -/
theorem cover0_A_12 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) (y : S128x1024.Idx) :
    ∃ pc ∈ (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.1, y ∈ pc.1.set :=
  View.cover_of_tiledL (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.1 S128x1024.size (by sl_kernel_rfl) y

/-- What the body leaves in output 12's staging buffer, read back. -/
def out0_A_12 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) : Vec F S128x1024 .f32 :=
  VO0_12.read (Elt F) (VO0_12.writes (Elt F) VO0_12.junk (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.1)

/-- Output 13 is written by one store of its whole block, `S128x1024`, so the stores cover the block. -/
theorem cover0_A_13 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) (y : S128x1024.Idx) :
    ∃ pc ∈ (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.2.1 S128x1024.size (by sl_kernel_rfl) y

/-- What the body leaves in output 13's staging buffer, read back. -/
def out0_A_13 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) : Vec F S128x1024 .f32 :=
  VO0_13.read (Elt F) (VO0_13.writes (Elt F) VO0_13.junk (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.2.1)

/-- Output 14 is written by one store of its whole block, `S8x8`, so the stores cover the block. -/
theorem cover0_A_14 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) (y : S8x8.Idx) :
    ∃ pc ∈ (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.2.2.1 S8x8.size (by sl_kernel_rfl) y

/-- What the body leaves in output 14's staging buffer, read back. -/
def out0_A_14 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) : Vec F S8x8 .f32 :=
  VO0_14.read (Elt F) (VO0_14.writes (Elt F) VO0_14.junk (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.2.2.1)

/-- Output 15 is written by one store of its whole block, `S2324x1024`, so the stores cover the block. -/
theorem cover0_A_15 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) (y : S2324x1024.Idx) :
    ∃ pc ∈ (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.2.2.2.1, y ∈ pc.1.set :=
  View.cover_of_tiledL (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.2.2.2.1 S2324x1024.size (by sl_kernel_rfl) y

/-- What the body leaves in output 15's staging buffer, read back. -/
def out0_A_15 (c : Dev nD) (arg0 : Memref sig .tc .vmem S128x1536 .f32) (harg0 : arg0.IsWhole) (arg1 : Memref sig .tc .vmem S128x10x768 .f32) (harg1 : arg1.IsWhole) (arg2 : Memref sig .tc .vmem S128x1 .f32) (harg2 : arg2.IsWhole) (arg3 : Memref sig .tc .vmem S512x1024 .f32) (harg3 : arg3.IsWhole) (arg4 : Memref sig .tc .vmem S288x1024 .f32) (harg4 : arg4.IsWhole) (arg5 : Memref sig .tc .vmem S768x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S5x20 .f32) (harg9 : arg9.IsWhole) (arg11 : Memref sig .tc .vmem S128x2324 .f32) (harg11 : arg11.IsWhole) (arg12 : Memref sig .tc .vmem S128x2324 .bf16) (harg12 : arg12.IsWhole) (arg13 : Memref sig .tc .vmem S128x1024 .f32) (harg13 : arg13.IsWhole) (arg14 : Memref sig .tc .vmem S128x1024 .f32) (harg14 : arg14.IsWhole) (arg15 : Memref sig .tc .vmem S8x8 .f32) (harg15 : arg15.IsWhole) (arg16 : Memref sig .tc .vmem S2324x1024 .bf16) (harg16 : arg16.IsWhole) (arg17 : Memref sig .tc .vmem S6972x1024 .f32) (harg17 : arg17.IsWhole)
    (x0 : Vec F S128x1536 .f32) (x1 : Vec F S128x10x768 .f32) (x2 : Vec F S128x1 .f32) (x3 : Vec F S512x1024 .f32) (x4 : Vec F S288x1024 .f32) (x5 : Vec F S768x1024 .f32) (x6 : Vec F S1x1024 .f32) (x7 : Vec F S1024x1 .f32) (x8 : Vec F S1x1 .f32) (x9 : Vec F S5x20 .f32) (fh0 : HbBuf0 (F := F) c hbM0_0) : Vec F S2324x1024 .bf16 :=
  VO0_15.read (Elt F) (VO0_15.writes (Elt F) VO0_15.junk (kernelRun0_A c arg0 harg0 arg1 harg1 arg2 harg2 arg3 harg3 arg4 harg4 arg5 harg5 arg6 harg6 arg7 harg7 arg8 harg8 arg9 harg9 arg11 harg11 arg12 harg12 arg13 harg13 arg14 harg14 arg15 harg15 arg16 harg16 arg17 harg17 x0 x1 x2 x3 x4 x5 x6 x7 x8 x9 fh0).2.2.2.2.2.1)

/-! ## What the outputs hold after each point -/

/-- What the outputs' staging buffers hold after the body at point `t`, from that point's input blocks. -/
def outsAt0 (c : Dev nD) (t : Fin cfg0.N) : Vec F S128x2324 .f32 × Vec F S128x2324 .bf16 × Vec F S128x1024 .f32 × Vec F S128x1024 .f32 × Vec F S8x8 .f32 × Vec F S2324x1024 .bf16 :=
  (out0_A_10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (V c main_arg13), out0_A_11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (V c main_arg13), out0_A_12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (V c main_arg13), out0_A_13 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (V c main_arg13), out0_A_14 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (V c main_arg13), out0_A_15 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (V c main_arg13))

/-! ## The pipeline's proof data -/

/-- The proof data of launch 0 on core `c`: the arrays as entered (`V`); after the body at point `t` each input's
    buffer at its block and the outputs at `outsAt0`; the invariant holds the scratch buffer, the
    semaphore at zero, the random generator's register and the weight in main memory as entered. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t).1
    | ⟨11, _⟩ => (outsAt0 V c t).2.1
    | ⟨12, _⟩ => (outsAt0 V c t).2.2.1
    | ⟨13, _⟩ => (outsAt0 V c t).2.2.2.1
    | ⟨14, _⟩ => (outsAt0 V c t).2.2.2.2.1
    | ⟨15, _⟩ => (outsAt0 V c t).2.2.2.2.2
    | ⟨_ + 16, h⟩ => absurd h (Nat.not_lt.2 (Nat.le_add_left _ _))
  Φ _ := Pipeline.ΦD osem0 spec0 H0 V c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t).1 := by dsimp only [dat0]
theorem after0_11 (c : Dev nD) (t : Fin cfg0.N) : (dat0 V c).after 11 t = (outsAt0 V c t).2.1 := by dsimp only [dat0]
theorem after0_12 (c : Dev nD) (t : Fin cfg0.N) : (dat0 V c).after 12 t = (outsAt0 V c t).2.2.1 := by dsimp only [dat0]
theorem after0_13 (c : Dev nD) (t : Fin cfg0.N) : (dat0 V c).after 13 t = (outsAt0 V c t).2.2.2.1 := by dsimp only [dat0]
theorem after0_14 (c : Dev nD) (t : Fin cfg0.N) : (dat0 V c).after 14 t = (outsAt0 V c t).2.2.2.2.1 := by dsimp only [dat0]
theorem after0_15 (c : Dev nD) (t : Fin cfg0.N) : (dat0 V c).after 15 t = (outsAt0 V c t).2.2.2.2.2 := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body at any point -/

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d)))

/-- What the body returns at point `t`, window by window. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t))

set_option maxHeartbeats 1600000 in
/-- The body at any point: called with the input blocks it runs, and leaves the blocks, the outputs and the invariant. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    after0_0, after0_1, after0_2, after0_3, after0_4, after0_5, after0_6, after0_7, after0_8, after0_9, after0_10, after0_11, after0_12, after0_13, after0_14, after0_15]
  rw [show (dat0 V c).Φ t.castSucc = Pipeline.ΦD osem0 spec0 H0 V c from rfl, PhiD0_eq]
  unfold Dat.owesAt Pipeline.owesWithin
  rw [show (dat0 V c).owed t.castSucc = 0 from rfl, show (dat0 V c).owed t.succ = 0 from rfl]
  unfold outsAt0
  unfold out0_A_10 out0_A_11 out0_A_12 out0_A_13 out0_A_14 out0_A_15; (try dsimp only)
  iintro ⟨⟨⟨HS0, HR1, HR2, HR3, HR4, HR5, HR6, HR7, HR8, HR9, HR10, HR11, HR12, HR13, HR14, HR15⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_A c _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (V c main_arg13)).2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [Hq0]; · iexact Hq0
  isplitl [Hh0]; · iexact Hh0
  isplitl [HW]; · iexact HW
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%fT0, HS0⟩, Hq0, Hh0, ⟨%W', HW'⟩⟩
  isplitl [HS0 HR1 HR2 HR3 HR4 HR5 HR6 HR7 HR8 HR9 HR10 HR11 HR12 HR13 HR14 HR15 Hg Hq0 Hh0]
  · isplitl [HS0 HR1 HR2 HR3 HR4 HR5 HR6 HR7 HR8 HR9 HR10 HR11 HR12 HR13 HR14 HR15]
    · isplitl [HS0]
      · iexists _; unfold owns; iexists _; isplitr
        swap; · iexact HS0
        ipureintro; rfl
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      iexact HR15
    isplitl [Hg]
    · iexact Hg
    isplitl [Hq0]
    · iexact Hq0
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _)
  unfold owns; iexists _; isplitr
  swap; · iexact H15
  ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _)

/-- The body that the table of bodies has for point `t` is the printed one on that point's staging buffers. -/
theorem defs₀_row0 (t : Fin cfg0.N) :
    defs₀ (F := F) .tc cfg0.body (cfg0.bodyArgs t (cfg0.slots t)) = bodyAt0 t := by
  unfold defs₀; rw [Defs.onTc_tc]

/-- The body meets, at every point, what the library's pipeline asks of it. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.KI.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KI.Loop
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second launch, the pair scores on a grid of eight, from any buffer contents `V` at its entry: what its body leaves in
its output, and that the body meets what the pipeline asks of it. -/

@[expose] public section

-- blocks of thousands of rows need more than the standard limit
set_option maxRecDepth 16384

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section Regions
-- what the buffers hold when the launch is entered; the whole program fills it in
variable (V : (c : Dev nD) → (b : Ref sig .tc) → Buf (Elt F) ((c : Thread nD τ).loc b))

/-! ## The windows' blocks -/

/-- Window `w`'s block at point `t`, read from its array as entered (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or earlier, for any
    proof data with the array of `V` (`hA`) whose body leaves the block in place (`hafter`). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether fetched there or earlier, for any
    proof data with the array of `V` (`hA`) whose body leaves the block in place (`hafter`). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether fetched there or earlier, for any
    proof data with the array of `V` (`hA`) whose body leaves the block in place (`hafter`). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether fetched there or earlier, for any
    proof data with the array of `V` (`hA`) whose body leaves the block in place (`hafter`). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether fetched there or earlier, for any
    proof data with the array of `V` (`hA`) whose body leaves the block in place (`hafter`). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, whether fetched there or earlier, for any
    proof data with the array of `V` (`hA`) whose body leaves the block in place (`hafter`). -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, whether fetched there or earlier, for any
    proof data with the array of `V` (`hA`) whose body leaves the block in place (`hafter`). -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, whether fetched there or earlier, for any
    proof data with the array of `V` (`hA`) whose body leaves the block in place (`hafter`). -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, whether fetched there or earlier, for any
    proof data with the array of `V` (`hA`) whose body leaves the block in place (`hafter`). -/
theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's staging buffer holds its block at every point, whether fetched there or earlier, for any
    proof data with the array of `V` (`hA`) whose body leaves the block in place (`hafter`). -/
theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body on any staging buffers -/

/-- One staging buffer of output window 10, to state its contents through; which one makes no difference. -/
abbrev VO1_10 : View sig .tc .vmem S1x16x128 .f32 := (Memref.whole cc1_stg10_0 : Memref sig .tc .vmem S1x16x128 .f32).view
/-- Each window's staging buffer at point `t`, as the body is given it, and that it is whole. -/
abbrev ms1_0 (t : Fin cfg1.N) : Memref sig .tc .vmem S128x2324 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x2324 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2324x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x16x128 .f32 := win1_10.stage (cfg1.slots t 10)
abbrev hs1_10 (t : Fin cfg1.N) : (ms1_10 t).IsWhole := hstage1_10 ((cfg1.slots t 10).cast nbuf1_10)

-- the run of the whole body needs more than the standard limit
set_option maxHeartbeats 1000000 in
/-- What the body's stores leave in the output's staging buffer, last store first, together with the proof that the body
    runs: from the inputs at their contents and the output at anything, to the inputs as they were and the output with its
    stores made. -/
noncomputable def kernelRun1_A (c : Dev nD) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole)
    (x0 : Vec F S128x2324 .f32) (x1 : Vec F S128x2324 .bf16) (x2 : Vec F S2324x1024 .bf16) (x3 : Vec F S1024x1024 .bf16) (x4 : Vec F S1024x1 .f32) (x5 : Vec F S128x1024 .f32) (x6 : Vec F S128x1024 .f32) (x7 : Vec F S1x1024 .f32) (x8 : Vec F S1x1024 .f32) (x9 : Vec F S1x1 .f32) :
    { L10 : List (View.Piece (Elt F) S1x16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10)) -∗ K ⟨⟩))
          ⊢ wp frame (wpE (defs₀ (F := F)) Variants.none c none) E (cc1_coref_pairs i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1_coref_pairs_eq_skeleton]; unfold cc1_coref_pairs_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact H10

/-- Output 10 is written by one store of its whole block, `S1x16x128`, so the stores cover the block. -/
theorem cover1_A_10 (c : Dev nD) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole)
    (x0 : Vec F S128x2324 .f32) (x1 : Vec F S128x2324 .bf16) (x2 : Vec F S2324x1024 .bf16) (x3 : Vec F S1024x1024 .bf16) (x4 : Vec F S1024x1 .f32) (x5 : Vec F S128x1024 .f32) (x6 : Vec F S128x1024 .f32) (x7 : Vec F S1x1024 .f32) (x8 : Vec F S1x1024 .f32) (x9 : Vec F S1x1 .f32) (y : S1x16x128.Idx) :
    ∃ pc ∈ (kernelRun1_A c i arg1 harg1 arg2 harg2 arg3 harg3 arg4 harg4 arg5 harg5 arg6 harg6 arg7 harg7 arg8 harg8 arg9 harg9 arg10 harg10 arg11 harg11 x0 x1 x2 x3 x4 x5 x6 x7 x8 x9).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 x0 x1 x2 x3 x4 x5 x6 x7 x8 x9).1 S1x16x128.size (by sl_kernel_rfl) y

/-- What the body leaves in output 10's staging buffer, read back. -/
def out1_A_10 (c : Dev nD) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole)
    (x0 : Vec F S128x2324 .f32) (x1 : Vec F S128x2324 .bf16) (x2 : Vec F S2324x1024 .bf16) (x3 : Vec F S1024x1024 .bf16) (x4 : Vec F S1024x1 .f32) (x5 : Vec F S128x1024 .f32) (x6 : Vec F S128x1024 .f32) (x7 : Vec F S1x1024 .f32) (x8 : Vec F S1x1024 .f32) (x9 : Vec F S1x1 .f32) : Vec F S1x16x128 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 x0 x1 x2 x3 x4 x5 x6 x7 x8 x9).1)

/-! ## What the outputs hold after each point -/

/-- What the outputs' staging buffers hold after the body at point `t`, from that point's input blocks. -/
def outsAt1 (c : Dev nD) (t : Fin cfg1.N) : Vec F S1x16x128 .f32 :=
  out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

/-! ## The pipeline's proof data -/

/-- The proof data of launch 1 on core `c`: the arrays as entered (`V`); after the body at point `t` each input's
    buffer at its block and the output at `outsAt1`; the invariant holds the rest of the
    launch's buffers and the random generator's register. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body at any point -/

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- What the body returns at point `t`, window by window. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t))

set_option maxHeartbeats 800000 in
/-- The body at any point: called with the input blocks it runs, and leaves the blocks, the outputs and the invariant. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  unfold outsAt1
  unfold out1_A_10
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun1_A c (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover1_A_10 c _ _ _ _ _ _ _ _ _ _ _ _ _ _ _ _ _ _ _ _ _ _ _ _ _ _ _ _ _ _ _ _ _)

/-- The body that the table of bodies has for point `t` is the printed one on that point's staging buffers. -/
theorem defs₀_row1 (t : Fin cfg1.N) :
    defs₀ (F := F) .tc cfg1.body (cfg1.bodyArgs t (cfg1.slots t)) = bodyAt1 t := by
  unfold defs₀; rw [Defs.onTc_tc]

/-- The body meets, at every point, what the library's pipeline asks of it. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.KI.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KI.Loop
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The third launch, the loss, from any buffer contents `V` at its entry: what its body leaves in its output, and that the
body meets what the pipeline asks of it. -/

@[expose] public section

-- blocks of thousands of rows need more than the standard limit
set_option maxRecDepth 16384

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section Regions
-- what the buffers hold when the launch is entered; the whole program fills it in
variable (V : (c : Dev nD) → (b : Ref sig .tc) → Buf (Elt F) ((c : Thread nD τ).loc b))

/-! ## The windows' blocks -/

/-- Window `w`'s block at point `t`, read from its array as entered (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or earlier, for any
    proof data with the array of `V` (`hA`) whose body leaves the block in place (`hafter`). -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, whether fetched there or earlier, for any
    proof data with the array of `V` (`hA`) whose body leaves the block in place (`hafter`). -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S8x16x128 := Rect.unit (s := S8x16x128) ![0, 0, 0] S8x16x128.size inb_S8x16x128_S8x16x128_0_0_0
abbrev r2_1 : Rect S8x8 := Rect.unit (s := S8x8) ![0, 0] S8x8.size inb_S8x8_S8x8_0_0
abbrev r2_2 : Rect S1x1 := Rect.unit (s := S1x1) ![0, 0] S1x1.size inb_S1x1_S1x1_0_0

/-! ## What the body leaves in each output window's buffer -/

/-- What the body leaves in the output's staging buffer, from the input blocks: the last of its stores first. -/
def out2_2 (x0 : Vec F S8x8 .f32) (x1 : Vec F S8x16x128 .f32) : Vec F S1x1 .f32 :=
  View.canon [⟨r2_2, k2_pay1 (k2_pay4 (View.ld x1 r2_0) (View.ld x0 r2_1)) (k2_pay5 (View.ld x1 r2_0) (View.ld x0 r2_1))⟩]

/-- The stores cover the output's block. -/
theorem cover2_2 (p0 : Vec F S1x1 .f32) (y : S1x1.Idx) :
    ∃ pc ∈ ([⟨r2_2, p0⟩] : List (View.Piece (Elt F) S1x1 .f32)), y ∈ pc.1.set :=
  View.cover_of_tiled [⟨r2_2, p0⟩] S1x1.size (by rfl) y

/-! ## The body's triple -/

set_option maxHeartbeats 1000000 in
/-- The body runs: from the inputs' staging buffers at contents `xW` and the output at anything, to the inputs as they were
    and the output at `out2_W` of them. -/
theorem sound_kernel2 (c : Dev nD) (E : Set ℕ) (arg0 : Memref sig .tc .vmem S8x8 .f32) (harg0 : arg0.IsWhole) (arg1 : Memref sig .tc .vmem S8x16x128 .f32) (harg1 : arg1.IsWhole) (arg2 : Memref sig .tc .vmem S1x1 .f32) (harg2 : arg2.IsWhole)
    (x0 : Vec F S8x8 .f32) (x1 : Vec F S8x16x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2_coref_loss arg0 harg0 arg1 harg1 arg2 harg2) K := by
  simp only [cc2_coref_loss_eq_skeleton]; unfold cc2_coref_loss_skel
  simp only [k2_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of launch 2 on core `c`: the arrays as entered (`V`); after the body at point `t` each input's
    buffer at its block and the output at `out2_W` of the blocks; the invariant holds the rest of the
    launch's buffers and the random generator's register. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the contents at entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body at any point -/

/-- What the body is called with at point `t`, window by window. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What the body returns at point `t`, window by window. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: called with the input blocks it runs, and leaves the blocks, the outputs and the invariant. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body that the table of bodies has for point `t` is the printed one on that point's staging buffers. -/
theorem defs₀_row2 (t : Fin cfg2.N) :
    defs₀ (F := F) .tc cfg2.body (cfg2.bodyArgs t (cfg2.slots t)) = bodyAt2 t := by
  unfold defs₀; rw [Defs.onTc_tc]

/-- The body meets, at every point, what the library's pipeline asks of it. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.KI.Whole.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KI.Region0
public import proofs.«01_k».proof.Proof.KI.Region1
public import proofs.«01_k».proof.Proof.KI.Region2
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The whole program, at any model of the floats: the host operations and the three launches in order. What every buffer
holds at each boundary, that no argument changes, and that every run ends without a fault. -/

@[expose] public section

-- blocks of thousands of rows need more than the standard limit
set_option maxRecDepth 16384

noncomputable section

namespace Cert.KernelIdeal.Run

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The argument arrays of `main`, as references of the core. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-! ## The host operations: none allocates a buffer, and a reference that none of them writes keeps its contents -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes no argument array. -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v12]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes no argument array. -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v15]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes no argument array. -/
theorem hostOps3_args : ∀ a ∈ argRefs, a ∉ hostOps3_W := ListAll.forall_mem_of_all_decide (by decide +kernel)

/-! ## What the buffers hold at each boundary, and what each part leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- What the buffers hold after `hostOps0`, at the entry of launch 0. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same at the core's references, as launch 0 takes it. -/
abbrev V1 : (c : Dev nD) → (b : Ref sig .tc) → Buf (Elt F) ((c : Thread nD τ).loc b) := fun c b => W1 m ρ c b
/-- What the buffers hold after launch 0: its arrays what the launch leaves in them, every other buffer as at entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is no output array of launch 0 keeps its contents across the launch. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- An argument that is an array of launch 0 is an input of it. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same at the core's references, after launch 0. -/
abbrev V2 : (c : Dev nD) → (b : Ref sig .tc) → Buf (Elt F) ((c : Thread nD τ).loc b) := fun c b => W2 m ρ c b
/-- After launch 0 each of its arrays holds what the launch leaves in it, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- What the buffers hold after `hostOps1`, at the entry of launch 1. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same at the core's references, as launch 1 takes it. -/
abbrev V3 : (c : Dev nD) → (b : Ref sig .tc) → Buf (Elt F) ((c : Thread nD τ).loc b) := fun c b => W3 m ρ c b
/-- What the buffers hold after launch 1: its arrays what the launch leaves in them, every other buffer as at entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is no output array of launch 1 keeps its contents across the launch. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- An argument that is an array of launch 1 is an input of it. -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same at the core's references, after launch 1. -/
abbrev V4 : (c : Dev nD) → (b : Ref sig .tc) → Buf (Elt F) ((c : Thread nD τ).loc b) := fun c b => W4 m ρ c b
/-- After launch 1 each of its arrays holds what the launch leaves in it, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- What the buffers hold after launch 2: its arrays what the launch leaves in them, every other buffer as at entry. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is no output array of launch 2 keeps its contents across the launch. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- An argument that is an array of launch 2 is an input of it. -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same at the core's references, after launch 2. -/
abbrev V5 : (c : Dev nD) → (b : Ref sig .tc) → Buf (Elt F) ((c : Thread nD τ).loc b) := fun c b => W5 m ρ c b
/-- After launch 2 each of its arrays holds what the launch leaves in it, and every other buffer what it held at entry. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- What the buffers hold after `hostOps3`, at the return. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host operation writes one, and no launch has one among its outputs -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
theorem W6_main_arg11 (c : Dev nD) : W6 m ρ c (Proc.devRef .tc main_arg11) = m ((c : Thread nD τ).loc main_arg11) :=
  W6_args m ρ c main_arg11 (by decide)
theorem W6_main_arg12 (c : Dev nD) : W6 m ρ c (Proc.devRef .tc main_arg12) = m ((c : Thread nD τ).loc main_arg12) :=
  W6_args m ρ c main_arg12 (by decide)
theorem W6_main_arg13 (c : Dev nD) : W6 m ρ c (Proc.devRef .tc main_arg13) = m ((c : Thread nD τ).loc main_arg13) :=
  W6_args m ρ c main_arg13 (by decide)
theorem W6_main_arg14 (c : Dev nD) : W6 m ρ c (Proc.devRef .tc main_arg14) = m ((c : Thread nD τ).loc main_arg14) :=
  W6_args m ρ c main_arg14 (by decide)
theorem W6_main_arg15 (c : Dev nD) : W6 m ρ c (Proc.devRef .tc main_arg15) = m ((c : Thread nD τ).loc main_arg15) :=
  W6_args m ρ c main_arg15 (by decide)
theorem W6_main_arg16 (c : Dev nD) : W6 m ρ c (Proc.devRef .tc main_arg16) = m ((c : Thread nD τ).loc main_arg16) :=
  W6_args m ρ c main_arg16 (by decide)
theorem W6_main_arg17 (c : Dev nD) : W6 m ρ c (Proc.devRef .tc main_arg17) = m ((c : Thread nD τ).loc main_arg17) :=
  W6_args m ρ c main_arg17 (by decide)
theorem W6_main_arg18 (c : Dev nD) : W6 m ρ c (Proc.devRef .tc main_arg18) = m ((c : Thread nD τ).loc main_arg18) :=
  W6_args m ρ c main_arg18 (by decide)

/-! ## The launches' proof data together, and what every part passes on -/

/-- No launch has a prefetched table. -/
abbrev adm : (p : Fin 3) → (pcfgs (F := F) p).Adm := fun p => (cfgs p).toPCfg_adm
/-- Each launch's proof data, at what the buffers hold at its entry. -/
def pdats : (p : Fin 3) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything. -/
abbrev L : GSem nD τ sig → Finset Unit := fun _ => ∅
abbrev lv : GSem nD τ sig → Unit → ℕ := fun _ _ => 0
/-- What every part passes on beside the buffers: the random generator's register at some state, and nothing owed. -/
abbrev R (c : Dev nD) : sProp 𝕄 := iprop((∃ r, prngReg c r) ∗ ∃ W, owes (c : Thread nD τ) (0 : CellTallies nD τ sig Unit) W)
/-- Host operations as a part of the program, from the contents `W` to what the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reference that is not scratch is among those that every part passes on. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the return: every buffer at the contents `W6`, and the random generator's register at some state. -/
abbrev Tₙ (c : Dev nD) : sProp 𝕄 := iprop(StableHlo.held (c : Thread nD τ) (Pipeline.ucRefs τ sig) (W6 m ρ c) ∗ ∃ r, prngReg c r)

/-! ## The launches as parts of the program -/

-- the library's segments are stated over a family of launches, and this launch has to be matched with its row there
set_option backward.isDefEq.respectTransparency.types false in
/-- Launch 0 as a part of the program: from the buffers at `W1` it runs to the buffers at `W2`.
    The semaphore and the copied weight go in and come out as they were. -/
def reg0 : Pipeline.RegionSeg (pcfgs (F := F)) adm (pdats m ρ) () defs₀ 𝒱₀ L lv 0 where
  win := launch0.win.to₀
  block_pos := launch0.block_pos
  stage_whole := launch0.stage_whole
  K := Fin 1
  osem := osem0
  ho := ownSemFacts0
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} V1 m ρ c b))
  Y c := iprop((∃ r, prngReg c r) ∗ (bigSep H0 fun b => (((c : Thread nD τ)).loc b) ↦{fullShare} V1 m ρ c b))
  Z c := bigSep (Pipeline.restRefs sig spec0 \ H0) fun b => (((c : Thread nD τ)).loc b) ↦{fullShare} V1 m ρ c b
  hentry c := by
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 0 c).Φ 0 = Pipeline.ΦD osem0 spec0 H0 (V1 m ρ) c from rfl, Pipeline.ΦD_eq]
    iintro ⟨⟨Hp, Ho, HH⟩, -, Hr⟩
    isplitl [Hr]; · iexact Hr
    isplitl [Hp]; · iexact Hp
    isplitl [Ho]; · iexact Ho
    iexact HH
  hout c := by
    rw [show (pdats m ρ 0 c).Φ (Fin.last _) = Pipeline.ΦD osem0 spec0 H0 (V1 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have hH : (Pipeline.unscopedRest (Ix := Unit) (Name := ℕ) (U := Pipeline.UD sig nD τ) (Lvl := ℕ) spec0 c (V1 m ρ c) : sProp 𝕄)
        = iprop((bigSep H0 fun b => (((c : Thread nD τ)).loc b) ↦{fullShare} V1 m ρ c b) ∗ (bigSep (Pipeline.restRefs sig spec0 \ H0) fun b => (((c : Thread nD τ)).loc b) ↦{fullShare} V1 m ρ c b)) := by
      unfold Pipeline.unscopedRest; exact BI.bigSep_sdiff_split H0_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's segments are stated over a family of launches, and this launch has to be matched with its row there
set_option backward.isDefEq.respectTransparency.types false in
/-- Launch 1 as a part of the program: from the buffers at `W3` it runs to the buffers at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's segments are stated over a family of launches, and this launch has to be matched with its row there
set_option backward.isDefEq.respectTransparency.types false in
/-- Launch 2 as a part of the program: from the buffers at `W4` it runs to the buffers at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program from its parts -/

/-- The six parts of `main`: the host operations and the three launches, in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
/-- `main` is the run of these parts. -/
theorem main_run (c : Dev nD) : main (F := F) c = Pipeline.Seg.run (segs m ρ) := (main_chain c).trans (by chain_rfl)

/-- The core has no semaphore outside the launches. -/
theorem no_unscoped : ∀ sm : SemLoc sig, sm.isScoped .tc = true := by decide

-- as for the launches' segments
set_option backward.isDefEq.respectTransparency.types false in
/-- From any memory with zero counters, every weakly fair execution of `main` terminates without a fault; at the end
    every array of the launch holds what the last stretch leaves in it, and every semaphore counter is zero. -/
theorem final : θ_run defs (onTc (τ := τ) (main (F := F))) ⟨m, fun _ => 0, ρ⟩ (fun r =>
    (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- From any memory with zero counters, every weakly fair execution of `main` terminates without a fault, the
    argument arrays end as they were launched, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c),
       (h.1 c _ (mem_uc main_arg7 (by decide))).trans (W6_main_arg7 m ρ c),
       (h.1 c _ (mem_uc main_arg8 (by decide))).trans (W6_main_arg8 m ρ c),
       (h.1 c _ (mem_uc main_arg9 (by decide))).trans (W6_main_arg9 m ρ c),
       (h.1 c _ (mem_uc main_arg10 (by decide))).trans (W6_main_arg10 m ρ c),
       (h.1 c _ (mem_uc main_arg11 (by decide))).trans (W6_main_arg11 m ρ c),
       (h.1 c _ (mem_uc main_arg12 (by decide))).trans (W6_main_arg12 m ρ c),
       (h.1 c _ (mem_uc main_arg13 (by decide))).trans (W6_main_arg13 m ρ c),
       (h.1 c _ (mem_uc main_arg14 (by decide))).trans (W6_main_arg14 m ρ c),
       (h.1 c _ (mem_uc main_arg15 (by decide))).trans (W6_main_arg15 m ρ c),
       (h.1 c _ (mem_uc main_arg16 (by decide))).trans (W6_main_arg16 m ρ c),
       (h.1 c _ (mem_uc main_arg17 (by decide))).trans (W6_main_arg17 m ρ c),
       (h.1 c _ (mem_uc main_arg18 (by decide))).trans (W6_main_arg18 m ρ c)⟩, h.2⟩) (final m ρ)

end Cert.KernelIdeal.Run

end
-- ==== Proof.KFrame.lean ====
module

public import proofs.«01_k».proof.Defs
public import proofs.«01_k».proof.Proof.Gen.Kernel
public import proofs.«01_k».proof.Proof.KI.Whole

/-! The kernel at machine words and the kernel at exact numbers are printed as the same text.  This module says so of the
bodies of the three launches, of the tables of launches and of `main`, and so carries the frame theorem, which is
proved at any model of the floats, over to the kernel at machine words. -/

@[expose] public section

set_option maxRecDepth 16384
set_option maxHeartbeats 8000000

noncomputable section

namespace Cert.Proof

open Idealize.ShloMosaic Idealize.SL.Sem

attribute [local instance] Cert.Kernel.Gen.facts
attribute [local instance] Cert.KernelIdeal.Gen.facts

variable {F : FTy → Type} [FloatOps F]

/-- The bodies of the three launches are the same in both printed programs. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact rfl
  | 1, (t, s) => exact rfl
  | 2, (t, s) => exact rfl

/-- The launches' grids, windows and buffers are the same. -/
theorem launches_eq : Cert.Kernel.pcfgs (F := F) = Cert.KernelIdeal.pcfgs (F := F) := rfl

/-- So are the tables of what a launch runs. -/
theorem defs_eq : Cert.Kernel.defs (F := F) = Cert.KernelIdeal.defs (F := F) :=
  congrArg (Pipeline.defs (Cert.Kernel.pcfgs (F := F))) bodies_eq

/-- So is `main`. -/
theorem main_eq : Cert.Kernel.main (F := F) = Cert.KernelIdeal.main (F := F) := rfl

/-- The frame of the kernel at machine words. -/
theorem frame_bits : Cert.quiescent_Kernel := fun m ρ _ => by
  rw [defs_eq, main_eq]
  exact Cert.KernelIdeal.Run.frame (F := Bits) m ρ

end Cert.Proof

end
-- ==== Proof.Entry.lean ====
module

public import proofs.«01_k».proof.Proof.KI.Whole
public import Idealize.ShloMosaic.Lib.Claim
public import Idealize.ShloMosaic.Lib.Pointwise

/-! The arrays the launches find: the arguments reshaped, the widths as floats, and the second layer's weights. -/

@[expose] public section

set_option maxRecDepth 16384

noncomputable section

namespace Cert.KernelIdeal.Run

open Idealize.ShloMosaic Idealize.ShloMosaic.TcCoe Idealize.SL.Sem
open Cert.KernelIdeal Cert.KernelIdeal.Gen

/-- Span features with documents and spans in one axis. -/
theorem flat_ends (x : FVec Ideal S8x16x1536 .f32) (h) (s : Fin 8) (i : Fin 16) (d : Fin 1536) :
    shapeCast S128x1536 x h (ix2 ⟨s * 16 + i, by omega⟩ d) = x (ix3 s i d) := by
  refine shapeCast_apply x h _ _ ?_
  simp only [Shape.rowMajor_val_two, Shape.rowMajor_val_three]
  simp

/-- Token features with documents and spans in one axis. -/
theorem flat_tokens (x : FVec Ideal S8x16x10x768 .f32) (h) (s : Fin 8) (i : Fin 16) (t : Fin 10) (d : Fin 768) :
    shapeCast S128x10x768 x h (ix3 ⟨s * 16 + i, by omega⟩ t d) = x (ix4 s i t d) := by
  refine shapeCast_apply x h _ _ ?_
  simp only [Shape.rowMajor_val_three, Shape.rowMajor_val_four]
  simp

/-- Widths with documents and spans in one axis. -/
theorem flat_widths (x : FVec Ideal S8x16 .f32) (h) (s : Fin 8) (i : Fin 16) :
    shapeCast S128x1 x h (ix2 ⟨s * 16 + i, by omega⟩ 0) = x (ix2 s i) := by
  refine shapeCast_apply x h _ _ ?_
  simp only [Shape.rowMajor_val_two]
  simp

/-- Document features with documents and frames in one axis. -/
theorem flat_doc (x : FVec Ideal S8x64x1024 .f32) (h) (s : Fin 8) (f : Fin 64) (k : Fin 1024) :
    shapeCast S512x1024 x h (ix2 ⟨s * 64 + f, by omega⟩ k) = x (ix3 s f k) := by
  refine shapeCast_apply x h _ _ ?_
  simp only [Shape.rowMajor_val_two, Shape.rowMajor_val_three]
  simp

/-- Image features with images and regions in one axis. -/
theorem flat_img (x : FVec Ideal S8x36x1024 .f32) (h) (s : Fin 8) (r : Fin 36) (k : Fin 1024) :
    shapeCast S288x1024 x h (ix2 ⟨s * 36 + r, by omega⟩ k) = x (ix3 s r k) := by
  refine shapeCast_apply x h _ _ ?_
  simp only [Shape.rowMajor_val_two, Shape.rowMajor_val_three]
  simp

/-- A bias as one row. -/
theorem flat_bias (x : FVec Ideal S1024 .f32) (h) (k : Fin 1024) : shapeCast S1x1024 x h (ix2 0 k) = x (ix1 k) := by
  refine shapeCast_apply x h _ _ ?_
  simp only [Shape.rowMajor_val_two, Shape.rowMajor_val_one]
  simp

/-- One number as a table. -/
theorem flat_one (x : FVec Ideal S1 .f32) (h) : shapeCast S1x1 x h (ix2 0 0) = x (ix1 0) := by
  refine shapeCast_apply x h _ _ ?_
  simp only [Shape.rowMajor_val_two, Shape.rowMajor_val_one]
  simp

variable (m : (ℓ : Loc nD τ sig) → Buf (Elt Ideal) ℓ) (ρ : Dev nD → PrngReg) (c : Dev nD)

/-- The first launch's span features. -/
theorem entry_ends : V1 m ρ c main_v0 = shapeCast S128x1536 (W0 m ρ c (Proc.tc.devRef main_arg4) : FVec Ideal S8x16x1536 .f32) shapeCasts_S8x16x1536_S128x1536 := by
  unfold V1 W1
  entry_read
  rfl

/-- The first launch's token features. -/
theorem entry_tokens : V1 m ρ c main_v1 = shapeCast S128x10x768 (W0 m ρ c (Proc.tc.devRef main_arg5) : FVec Ideal S8x16x10x768 .f32) shapeCasts_S8x16x10x768_S128x10x768 := by
  unfold V1 W1
  entry_read
  rfl

/-- The first launch's widths. -/
theorem entry_widths : V1 m ρ c main_v3 = shapeCast S128x1 (sitofp (F := Ideal) .f32 (W0 m ρ c (Proc.tc.devRef main_arg6) : IVec S8x16 32)) shapeCasts_S8x16_S128x1 := by
  unfold V1 W1
  entry_read
  rfl

/-- The first launch's document features. -/
theorem entry_doc : V1 m ρ c main_v4 = shapeCast S512x1024 (W0 m ρ c (Proc.tc.devRef main_arg0) : FVec Ideal S8x64x1024 .f32) shapeCasts_S8x64x1024_S512x1024 := by
  unfold V1 W1
  entry_read
  rfl

/-- The first launch's image features. -/
theorem entry_img : V1 m ρ c main_v5 = shapeCast S288x1024 (W0 m ρ c (Proc.tc.devRef main_arg1) : FVec Ideal S8x36x1024 .f32) shapeCasts_S8x36x1024_S288x1024 := by
  unfold V1 W1
  entry_read
  rfl

/-- The token scores' first bias. -/
theorem entry_ab1 : V1 m ρ c main_v6 = shapeCast S1x1024 (W0 m ρ c (Proc.tc.devRef main_arg9) : FVec Ideal S1024 .f32) shapeCasts_S1024_S1x1024 := by
  unfold V1 W1
  entry_read
  rfl

/-- The token scores' second bias. -/
theorem entry_ab2 : V1 m ρ c main_v7 = shapeCast S1x1 (W0 m ρ c (Proc.tc.devRef main_arg11) : FVec Ideal S1 .f32) shapeCasts_S1_S1x1 := by
  unfold V1 W1
  entry_read
  rfl

/-- The pair scores' first bias. -/
theorem entry_b1 : V1 m ρ c main_v8 = shapeCast S1x1024 (W0 m ρ c (Proc.tc.devRef main_arg14) : FVec Ideal S1024 .f32) shapeCasts_S1024_S1x1024 := by
  unfold V1 W1
  entry_read
  rfl

/-- The pair scores' second bias. -/
theorem entry_b2 : V1 m ρ c main_v9 = shapeCast S1x1024 (W0 m ρ c (Proc.tc.devRef main_arg16) : FVec Ideal S1024 .f32) shapeCasts_S1024_S1x1024 := by
  unfold V1 W1
  entry_read
  rfl

/-- The pair scores' last bias. -/
theorem entry_b3 : V1 m ρ c main_v10 = shapeCast S1x1 (W0 m ρ c (Proc.tc.devRef main_arg18) : FVec Ideal S1 .f32) shapeCasts_S1_S1x1 := by
  unfold V1 W1
  entry_read
  rfl

/-- The second layer's weights in the narrow format. -/
theorem entry_w2 : V3 m ρ c main_v12 = truncf (F := Ideal) .bf16 (W2 m ρ c (Proc.tc.devRef main_arg15) : FVec Ideal S1024x1024 .f32) bitsLt_bf16_f32 := by
  unfold V3 W3
  entry_read
  rfl

/-- The result is the last launch's one number. -/
theorem exit_loss : W6 m ρ c (Proc.tc.devRef main_v15) = shapeCast S_ (W5 m ρ c (Proc.tc.devRef main_v14) : FVec Ideal S1x1 .f32) shapeCasts_S1x1_S_ := by
  unfold W6
  entry_read
  rfl

end Cert.KernelIdeal.Run

end
-- ==== Proof.Spec.lean ====
module

public import Idealize.ShloMosaic.Lib.Pointwise

/-! The loss of the problem, written plainly over functions of small indices: the span embeddings, the score of a
pair of spans, the agreement of two documents, the grounding score of a document and an image, and the loss. -/

@[expose] public section

set_option maxRecDepth 16384

noncomputable section

namespace Cert.Spec

open Idealize.ShloMosaic

/-- The largest entry of a row, started from the pattern of minus infinity. -/
def rowMax {n : Nat} (f : Fin n → EReal) : EReal :=
  Finset.univ.fold max (Ideal.ofBits .f32 0xFF800000#32) f

/-- The softmax of a row at one position. -/
def soft {n : Nat} (f : Fin n → EReal) (k : Fin n) : EReal :=
  Ideal.div (Ideal.exp (f k - rowMax f)) (∑ l, Ideal.exp (f l - rowMax f))

/-- A token's attention score: a hidden layer with rectifier, then one output. -/
def tokScore (ct : Fin 768 → EReal) (w1 : Fin 768 → Fin 1024 → EReal) (b1 : Fin 1024 → EReal)
    (w2 : Fin 1024 → EReal) (b2 : EReal) : EReal :=
  (∑ h, max ((∑ d, ct d * w1 d h) + b1 h) 0 * w2 h) + b2

/-- The scores of a span's ten tokens, those past the span's width replaced by the large negative literal. -/
def maskedScore (wid : BitVec 32) (sc : Fin 10 → EReal) (t : Fin 10) : EReal :=
  if ((t : ℕ) : ℤ) < wid.toInt then sc t else Ideal.ofBits .f32 0xD01502F9#32

/-- The row of the width table a span reads: its width cut to the range zero to four. -/
def widthRow (wid : BitVec 32) : Fin 5 := ⟨min wid.toInt.toNat 4, by omega⟩

/-- One span's embedding: the start and end features, the attended token features and the width features. -/
def span (se : Fin 1536 → EReal) (ct : Fin 10 → Fin 768 → EReal) (wid : BitVec 32)
    (w1 : Fin 768 → Fin 1024 → EReal) (b1 : Fin 1024 → EReal) (w2 : Fin 1024 → EReal) (b2 : EReal)
    (we : Fin 5 → Fin 20 → EReal) (d : Fin 2324) : EReal :=
  if h : (d : ℕ) < 1536 then se ⟨d, h⟩
  else if h' : (d : ℕ) - 1536 < 768 then
    ∑ t, soft (maskedScore wid fun t => tokScore (ct t) w1 b1 w2 b2) t * ct t ⟨(d : ℕ) - 1536, h'⟩
  else we (widthRow wid) ⟨(d : ℕ) - 1536 - 768, by omega⟩

/-- The score of a pair of spans: three linear parts, then two more layers. -/
def pair (x y : Fin 2324 → EReal) (w1 : Fin 6972 → Fin 1024 → EReal) (b1 : Fin 1024 → EReal)
    (w2 : Fin 1024 → Fin 1024 → EReal) (b2 : Fin 1024 → EReal) (w3 : Fin 1024 → EReal) (b3 : EReal) : EReal :=
  (∑ k, max ((∑ h, max ((∑ d : Fin 2324, x d * w1 ⟨d, by omega⟩ h)
      + (∑ d : Fin 2324, y d * w1 ⟨2324 + d, by omega⟩ h)
      + (∑ d : Fin 2324, x d * y d * w1 ⟨4648 + d, by omega⟩ h) + b1 h) 0 * w2 h k) + b2 k) 0 * w3 k) + b3

/-- The agreement of two documents' spans: the better of the row averages and the better of the column averages,
    averaged. -/
def agree (ts : Fin 16 → Fin 16 → EReal) : EReal :=
  Ideal.div (rowMax (fun i => Ideal.div (∑ j, ts i j) 16) + rowMax (fun j => Ideal.div (∑ i, ts i j) 16)) 2

/-- The attention table of a document against an image, exact zeros replaced by the large negative literal. -/
def att (doc : Fin 64 → Fin 1024 → EReal) (img : Fin 36 → Fin 1024 → EReal) (f : Fin 64) (r : Fin 36) : EReal :=
  if (∑ k, doc f k * img r k) ≠ 0 then ∑ k, doc f k * img r k else Ideal.ofBits .f32 0xD01502F9#32

/-- The grounding score of an attention table: both softmax averages. -/
def ground (a : Fin 64 → Fin 36 → EReal) : EReal :=
  (∑ f, ∑ r, soft (a f) r * a f r) + ∑ f, ∑ r, soft (fun f' => a f' r) f * a f r

/-- The loss of the two score tables. -/
def loss (sg sc : Fin 8 → Fin 8 → EReal) : EReal :=
  Ideal.div (-((∑ s, Ideal.log (∑ v, soft (sg s) v * soft (sc s) v))
    + ∑ s, Ideal.log (∑ v, soft (fun v' => sg v' s) v * soft (sc s) v))) 8

/-- The loss from the input arrays: grounding of every document against every image, agreement of every two
    documents' spans. -/
def answer (doc : Fin 8 → Fin 64 → Fin 1024 → EReal) (img : Fin 8 → Fin 36 → Fin 1024 → EReal)
    (se : Fin 8 → Fin 16 → Fin 1536 → EReal) (ct : Fin 8 → Fin 16 → Fin 10 → Fin 768 → EReal)
    (wid : Fin 8 → Fin 16 → BitVec 32) (aw1 : Fin 768 → Fin 1024 → EReal) (ab1 aw2 : Fin 1024 → EReal) (ab2 : EReal)
    (we : Fin 5 → Fin 20 → EReal) (w1 : Fin 6972 → Fin 1024 → EReal) (b1 : Fin 1024 → EReal)
    (w2 : Fin 1024 → Fin 1024 → EReal) (b2 w3 : Fin 1024 → EReal) (b3 : EReal) : EReal :=
  loss (fun s v => ground (att (doc s) (img v)))
    fun s v => agree fun i j => pair (span (se s i) (ct s i) (wid s i) aw1 ab1 aw2 ab2 we)
      (span (se v j) (ct v j) (wid v j) aw1 ab1 aw2 ab2 we) w1 b1 w2 b2 w3 b3

end Cert.Spec

end
-- ==== Proof.PureC.lean ====
module

public import proofs.«01_k».proof.Proof.Gen.KernelIdeal.Skeleton
public import proofs.«01_k».proof.Proof.Spec
public import Idealize.ShloMosaic.Lib.IdealHost

/-! The second launch's vector values read at one entry: one column of pair scores, and the row and column averages. -/

@[expose] public section

set_option maxRecDepth 16384

noncomputable section

namespace Cert.KernelIdeal.Pure

open Idealize.ShloMosaic
open Cert.KernelIdeal Cert.KernelIdeal.Gen
open Cert.Spec

/-- The second hidden layer at one span and unit, from the row of the other span. -/
theorem hidden_at (y : FVec Ideal S1x2324 .f32) (x : FVec Ideal S128x2324 .bf16) (w : FVec Ideal S2324x1024 .bf16)
    (a : FVec Ideal S128x1024 .f32) (b : FVec Ideal S1x1024 .f32) (b1 : FVec Ideal S1x1024 .f32)
    (w2 : FVec Ideal S1024x1024 .bf16) (b2 : FVec Ideal S1x1024 .f32) (p : Fin 128) (k : Fin 1024) :
    k1_pay4 (F := Ideal) y x w a b b1 w2 b2 (ix2 p k)
      = max ((∑ h, max ((∑ d : Fin 2324, x (ix2 p d) * y (ix2 0 d) * w (ix2 d h)) + a (ix2 p h) + b (ix2 0 h) + b1 (ix2 0 h)) 0
          * w2 (ix2 h k)) + b2 (ix2 0 k)) 0 := by
  pointwise [k1_pay4]

/-- One trip adds the scores of its own column and leaves the others. -/
theorem column_at (acc : FVec Ideal S128x16 .f32) (f : ℕ) (hf : f < 16) (h2 : FVec Ideal S128x1024 .f32) (w3 : FVec Ideal S1024x1 .f32)
    (b3 : FVec Ideal S1x1 .f32) (p : Fin 128) (j : Fin 16) :
    k1_pay2 (F := Ideal) acc (BitVec.ofNat 32 f) h2 w3 b3 (ix2 p j)
      = acc (ix2 p j) + if (j : ℕ) = f then (∑ k, h2 (ix2 p k) * w3 (ix2 k 0)) + b3 (ix2 0 0) else 0 := by
  have e : (BitVec.ofNat 32 (j : ℕ) = BitVec.ofNat 32 f) ↔ (j : ℕ) = f := by
    constructor
    · intro h
      have := congrArg BitVec.toNat h
      simp only [BitVec.toNat_ofNat] at this
      omega
    · rintro rfl; rfl
  pointwise [k1_pay2]
  by_cases h : (j : ℕ) = f
  · rw [if_pos h]; simp [IntOp.cmpi, Scalar.select, e, h]
  · have h' : (BitVec.ofNat 32 (j : ℕ) == BitVec.ofNat 32 f) = false := by simpa [e] using h
    rw [if_neg h]; simp [IntOp.cmpi, Scalar.select, h']

/-- The stored block: rows zero to seven hold the best row average, rows eight to fifteen the best column average. -/
theorem best_at (ts : FVec Ideal S128x16 .f32) (r : Fin 16) (q : Fin 128) :
    k1_pay3 (F := Ideal) ts (ix3 0 r q)
      = if h : (r : ℕ) < 8 then
          rowMax (fun i : Fin 16 => Ideal.div (∑ j, ts (ix2 ⟨(r : ℕ) * 16 + i, by omega⟩ j)) (Ideal.ofBits .f32 0x41800000#32))
        else rowMax (fun j : Fin 16 => Ideal.div (∑ i : Fin 16, ts (ix2 ⟨((r : ℕ) - 8) * 16 + i, by omega⟩ j)) (Ideal.ofBits .f32 0x41800000#32)) := by
  unfold rowMax
  pointwise [k1_pay3]

end Cert.KernelIdeal.Pure

end
-- ==== Proof.Trip.lean ====
module

public import proofs.«01_k».proof.Proof.KI.Whole
public import proofs.«01_k».proof.Proof.PureC
public import Idealize.ShloMosaic.Lib.Pipeline.ValueKit
public import Idealize.ShloMosaic.Lib.Pipeline.ReadBack
public import Idealize.ShloMosaic.Lib.Pointwise

/-! The second launch's loop over the sixteen spans of an image: what it carries before each trip. -/

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.KernelIdeal.Pure

/-- The score of two spans from the three linear parts: the product part is summed here, the two others are given. -/
def score (x1 : FVec Ideal S128x2324 .bf16) (x0 : FVec Ideal S128x2324 .f32) (x2 : FVec Ideal S2324x1024 .bf16)
    (x3 : FVec Ideal S1024x1024 .bf16) (x4 : FVec Ideal S1024x1 .f32) (x5 x6 : FVec Ideal S128x1024 .f32) (x7 x8 : FVec Ideal S1x1024 .f32)
    (x9 : FVec Ideal S1x1 .f32) (p q : Fin 128) : EReal :=
  (∑ k : Fin 1024, max ((∑ h : Fin 1024, max ((∑ d : Fin 2324, x1 (ix2 p d) * x0 (ix2 q d) * x2 (ix2 d h)) + x5 (ix2 p h) + x6 (ix2 q h)
      + x7 (ix2 0 h)) 0 * x3 (ix2 h k)) + x8 (ix2 0 k)) 0 * x4 (ix2 k 0)) + x9 (ix2 0 0)

section Trip

variable (c : Dev nD) (i : grid1.Coords) (arg1 : Memref sig .tc .vmem S128x2324 .f32) (harg1 : arg1.IsWhole) (arg2 : Memref sig .tc .vmem S128x2324 .bf16) (harg2 : arg2.IsWhole) (arg3 : Memref sig .tc .vmem S2324x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1 .f32) (harg10 : arg10.IsWhole) (arg11 : Memref sig .tc .vmem S1x16x128 .f32) (harg11 : arg11.IsWhole)
  (arg0 : BitVec 32) (x0 : FVec Ideal S128x2324 .f32) (x1 : FVec Ideal S128x2324 .bf16) (x2 : FVec Ideal S2324x1024 .bf16) (x3 : FVec Ideal S1024x1024 .bf16) (x4 : FVec Ideal S1024x1 .f32) (x5 : FVec Ideal S128x1024 .f32) (x6 : FVec Ideal S128x1024 .f32) (x7 : FVec Ideal S1x1024 .f32) (x8 : FVec Ideal S1x1024 .f32) (x9 : FVec Ideal S1x1 .f32)

/-- What the loop carries before trip `n`, over its input blocks. -/
def carried (n : ℕ) : FVec Ideal S128x16 .f32 :=
  st_k1_t1 (F := Ideal) Variants.none c none i arg1 harg1 arg2 harg2 arg3 harg3 arg4 harg4 arg5 harg5 arg6 harg6 arg7 harg7 arg8 harg8 arg9 harg9 arg10 harg10 arg11 harg11 arg0 (harg1.unread x0) (harg2.unread x1) (harg3.unread x2) (harg4.unread x3) (harg5.unread x4) (harg6.unread x5) (harg7.unread x6) (harg8.unread x7) (harg9.unread x8) (harg10.unread x9) k1_pay1 n

/-- One trip of the loop adds one column of scores. -/
theorem carried_succ (k : Fin k1_t1_loop.trips) (hk : (k : ℕ) < 16) (p : Fin 128) (j : Fin 16) :
    carried c i arg1 harg1 arg2 harg2 arg3 harg3 arg4 harg4 arg5 harg5 arg6 harg6 arg7 harg7 arg8 harg8 arg9 harg9 arg10 harg10 arg11 harg11 arg0 x0 x1 x2 x3 x4 x5 x6 x7 x8 x9 (k + 1) (ix2 p j)
      = carried c i arg1 harg1 arg2 harg2 arg3 harg3 arg4 harg4 arg5 harg5 arg6 harg6 arg7 harg7 arg8 harg8 arg9 harg9 arg10 harg10 arg11 harg11 arg0 x0 x1 x2 x3 x4 x5 x6 x7 x8 x9 k (ix2 p j)
        + if (j : ℕ) = k then score x1 x0 x2 x3 x4 x5 x6 x7 x8 x9 p ⟨16 * (i 0).val + k, by have h : (i 0).val < 8 := (i 0).isLt; omega⟩ else 0 := by
  unfold carried
  rw [st_k1_t1_succ]
  unfold tripR_k1_t1 trip_k1_t1
  frame_out
  rw [show Scf.iv 0#32 1#32 (k : ℕ) = BitVec.ofNat 32 k by simp [Scf.iv]]
  refine (column_at _ k hk _ _ _ p j).trans ?_
  congr 2
  unfold score
  refine congrArg (· + x9 (ix2 0 0)) (Finset.sum_congr rfl fun u _ => congrArg (· * x4 (ix2 u 0)) ((hidden_at _ _ _ _ _ _ _ _ p u).trans ?_))
  have row : ∀ d : Fin 2324, View.ld (Val := Elt Ideal) (e' := .f32) x0 (Rect.unit (s := S128x2324) (k1_off1 i k) ![1, 2324] (k1_off1_inb i k)) (ix2 0 d)
      = x0 (ix2 ⟨16 * (i 0).val + k, by have h : (i 0).val < 8 := (i 0).isLt; omega⟩ d) := fun d => by
    refine congrArg x0 ?_
    funext a; fin_cases a <;> exact Fin.ext (by simp [Rect.emb, Rect.unit, k1_off1_eq])
  have row' : ∀ d : Fin 1024, View.ld (Val := Elt Ideal) (e' := .f32) x6 (Rect.unit (s := S128x1024) (k1_off2 i k) ![1, 1024] (k1_off2_inb i k)) (ix2 0 d)
      = x6 (ix2 ⟨16 * (i 0).val + k, by have h : (i 0).val < 8 := (i 0).isLt; omega⟩ d) := fun d => by
    refine congrArg x6 ?_
    funext a; fin_cases a <;> exact Fin.ext (by simp [Rect.emb, Rect.unit, k1_off2_eq])
  simp only [row, row']

/-- Before trip `n` the first `n` columns hold their scores and the others zero. -/
theorem carried_at (n : ℕ) (hn : n ≤ 16) (p : Fin 128) (j : Fin 16) :
    carried c i arg1 harg1 arg2 harg2 arg3 harg3 arg4 harg4 arg5 harg5 arg6 harg6 arg7 harg7 arg8 harg8 arg9 harg9 arg10 harg10 arg11 harg11 arg0 x0 x1 x2 x3 x4 x5 x6 x7 x8 x9 n (ix2 p j)
      = if (j : ℕ) < n then score x1 x0 x2 x3 x4 x5 x6 x7 x8 x9 p ⟨16 * (i 0).val + j, by have h : (i 0).val < 8 := (i 0).isLt; omega⟩ else 0 := by
  induction n with
  | zero =>
    rw [if_neg (by omega)]
    show k1_pay1 (F := Ideal) (ix2 p j) = 0
    pointwise [k1_pay1]
  | succ n ih =>
    have hlt : n < k1_t1_loop.trips := lt_of_lt_of_le (Nat.lt_of_succ_le hn) (by decide +kernel)
    have step := carried_succ c i arg1 harg1 arg2 harg2 arg3 harg3 arg4 harg4 arg5 harg5 arg6 harg6 arg7 harg7 arg8 harg8 arg9 harg9 arg10 harg10 arg11 harg11 arg0 x0 x1 x2 x3 x4 x5 x6 x7 x8 x9 ⟨n, hlt⟩ (by show n < 16; omega) p j
    refine step.trans ?_
    dsimp only
    rw [ih (by omega)]
    by_cases h : (j : ℕ) = n
    · subst h
      rw [if_neg (by omega), if_pos rfl, if_pos (by omega), zero_add]
    · rw [if_neg h, add_zero]
      by_cases h' : (j : ℕ) < n
      · rw [if_pos h', if_pos (by omega)]
      · rw [if_neg h', if_neg (by omega)]

end Trip

end Cert.KernelIdeal.Run

end
-- ==== Proof.PureD.lean ====
module

public import proofs.«01_k».proof.Proof.Gen.KernelIdeal.Skeleton
public import proofs.«01_k».proof.Proof.Spec
public import Idealize.ShloMosaic.Lib.IdealHost

/-! The third launch's vector values read at one entry: the two softmaxes and the loss. -/

@[expose] public section

set_option maxRecDepth 16384

noncomputable section

namespace Cert.KernelIdeal.Pure

open Idealize.ShloMosaic
open Cert.KernelIdeal Cert.KernelIdeal.Gen
open Cert.Spec

/-- Half the sum of the two best averages. -/
abbrev half (b : FVec Ideal S8x16x128 .f32) (s v : Fin 8) : EReal :=
  Ideal.ofBits .f32 0x3F000000#32 * (rowMax (fun q => b (ix3 v ⟨s, by omega⟩ q)) + rowMax (fun q => b (ix3 v ⟨8 + s, by omega⟩ q)))

/-- The softmax of the agreement table at one entry. -/
theorem agree_at (b : FVec Ideal S8x16x128 .f32) (s v : Fin 8) :
    k2_pay3 (F := Ideal) b (ix2 s v) = soft (half b s) v := by
  have row : ∀ s v, transpose S8x8 [1, 0] (mulf (broadcast S8x8 (Scalar.ofBits (F := Ideal) .f32 0x3F000000#32))
      (addf (extractStridedSlice S8x8 ![0, 0] (multiReduction .maximumf [2] S8x16
          (shapeCast S8x16x128 b shapeCasts_S8x16x128_S8x16x128) 0xFF800000#32 reduces_S8x16x128_S8x16 (.inl rfl) rfl) slices_S8x16_o0_0_S8x8)
        (extractStridedSlice S8x8 ![0, 8] (multiReduction .maximumf [2] S8x16
          (shapeCast S8x16x128 b shapeCasts_S8x16x128_S8x16x128) 0xFF800000#32 reduces_S8x16x128_S8x16 (.inl rfl) rfl) slices_S8x16_o0_8_S8x8)))
      transposes_S8x8_p1_0_S8x8 (ix2 s v) = half b s v := by
    intro s v
    unfold half rowMax
    pointwise
  unfold k2_pay3
  generalize transpose S8x8 _ _ _ = z at row ⊢
  unfold soft rowMax
  simp only [← row]
  pointwise

/-- The first logarithm at one row. -/
theorem log1_at (b : FVec Ideal S8x16x128 .f32) (g : FVec Ideal S8x8 .f32) (s : Fin 8) :
    k2_pay4 (F := Ideal) b g (ix2 s 0) = Ideal.log (∑ v, soft (fun v => g (ix2 s v)) v * soft (half b s) v) := by
  unfold k2_pay4
  have h := agree_at b
  generalize k2_pay3 (F := Ideal) b = z at h ⊢
  simp only [← h]
  unfold soft rowMax
  pointwise [k2_pay2]

/-- The second row sum. -/
theorem sum2_at (b : FVec Ideal S8x16x128 .f32) (g : FVec Ideal S8x8 .f32) (s : Fin 8) :
    k2_pay5 (F := Ideal) b g (ix1 s) = ∑ v, soft (fun v => g (ix2 v s)) v * soft (half b s) v := by
  unfold k2_pay5
  have h := agree_at b
  generalize k2_pay3 (F := Ideal) b = z at h ⊢
  simp only [← h]
  unfold soft rowMax
  pointwise [k2_pay2]

/-- The stored loss. -/
theorem total_at (u : FVec Ideal S8x1 .f32) (w : FVec Ideal S8 .f32) :
    k2_pay1 (F := Ideal) u w (ix2 0 0) = Ideal.div (0 - ((∑ s, u (ix2 s 0)) + ∑ s, Ideal.log (w (ix1 s)))) (Ideal.ofBits .f32 0x41000000#32) := by
  pointwise [k2_pay1]
  simp only [Finset.univ_unique, Finset.sum_singleton]

end Cert.KernelIdeal.Pure

end
-- ==== Proof.PureB.lean ====
module

public import proofs.«01_k».proof.Proof.Gen.KernelIdeal.Skeleton
public import proofs.«01_k».proof.Proof.Spec
public import Idealize.ShloMosaic.Lib.IdealHost

/-! The first launch's grounding table and the two linear parts of the pair layer, read at one entry. -/

@[expose] public section

set_option maxRecDepth 16384

noncomputable section

namespace Cert.KernelIdeal.Pure

open Idealize.ShloMosaic
open Cert.KernelIdeal Cert.KernelIdeal.Gen
open Cert.Spec

/-- An attention table at one document, frame and region of interest. -/
theorem att_at (t : FVec Ideal S512x1024 .f32) (img : FVec Ideal S36x1024 .f32) (s : Fin 8) (f : Fin 64) (r : Fin 36) :
    k0_pay33 (F := Ideal) t img (ix3 s f r)
      = att (fun f k => t (ix2 ⟨(s : ℕ) * 64 + f, by omega⟩ k)) (fun r k => img (ix2 r k)) f r := by
  unfold att
  pointwise [k0_pay33]

/-- A grounding score from its attention table and the row maxima. -/
theorem ground_of (z y : FVec Ideal S8x64x36 .f32) (s : Fin 8) (a : Fin 64 → Fin 36 → EReal)
    (hz : ∀ f r, z (ix3 s f r) = a f r) (hy : ∀ f r, y (ix3 s f r) = rowMax (a f)) :
    k0_pay35 (F := Ideal) z y (ix2 s 0) = ground a := by
  pointwise [k0_pay35]
  simp only [hy, hz]
  rfl

/-- The row maxima of an attention table. -/
theorem rowmax_at (t : FVec Ideal S512x1024 .f32) (img : FVec Ideal S36x1024 .f32) (s : Fin 8) (f : Fin 64) (r : Fin 36) :
    k0_pay34 (F := Ideal) t img (ix3 s f r)
      = rowMax (att (fun f k => t (ix2 ⟨(s : ℕ) * 64 + f, by omega⟩ k)) (fun r k => img (ix2 r k)) f) := by
  unfold k0_pay34
  have h := att_at t img
  generalize k0_pay33 (F := Ideal) t img = z at h ⊢
  unfold rowMax
  simp only [← h]
  pointwise

/-- A grounding column at one document. -/
theorem ground_at (t : FVec Ideal S512x1024 .f32) (img : FVec Ideal S36x1024 .f32) (s : Fin 8) :
    k0_pay31 (F := Ideal) t img (ix2 s 0)
      = ground (att (fun f k => t (ix2 ⟨(s : ℕ) * 64 + f, by omega⟩ k)) (fun r k => img (ix2 r k))) :=
  (show _ = k0_pay35 (F := Ideal) (k0_pay33 t img) (k0_pay34 t img) (ix2 s 0) from rfl).trans
    (ground_of _ _ s _ (fun f r => att_at t img s f r) (fun f r => rowmax_at t img s f r))

/-- The document block read again is itself. -/
theorem doc_again (d : FVec Ideal S512x1024 .f32) : k0_pay27 (F := Ideal) d = d := by
  funext j; idx_vars j; pointwise [k0_pay27]

/-- The grounding columns of images zero to six: the same column. -/
theorem col0 (t : FVec Ideal S512x1024 .f32) (img : FVec Ideal S36x1024 .f32) :
    k0_pay30 (F := Ideal) (k0_pay28 t img) (k0_pay29 t img) = k0_pay31 (k0_pay27 t) img := rfl
/-- The third image's column. -/
theorem col2 : k0_pay32 (F := Ideal) = k0_pay31 := rfl
/-- The fourth image's column. -/
theorem col3 (t : FVec Ideal S512x1024 .f32) (img : FVec Ideal S36x1024 .f32) :
    k0_pay35 (F := Ideal) (k0_pay33 t img) (k0_pay34 t img) = k0_pay31 t img := rfl
/-- The fifth image's column. -/
theorem col4 (t : FVec Ideal S512x1024 .f32) (img : FVec Ideal S36x1024 .f32) :
    k0_pay39 (F := Ideal) (k0_pay36 t img) (k0_pay37 t img) (k0_pay38 t img) = k0_pay31 t img := rfl
/-- The sixth image's column. -/
theorem col5 : k0_pay40 (F := Ideal) = k0_pay31 := rfl
/-- The seventh image's column. -/
theorem col6 (t : FVec Ideal S512x1024 .f32) (img : FVec Ideal S36x1024 .f32) :
    k0_pay42 (F := Ideal) (k0_pay41 t img) (Scalar.ofBits .f32 0x00000000#32) = k0_pay31 t img := rfl
/-- The last image's column is computed inside the table's concatenation. -/
theorem col7 (c0 c1 c2 c3 c4 c5 c6 : FVec Ideal S8x1 .f32) (t : FVec Ideal S512x1024 .f32) (img : FVec Ideal S36x1024 .f32) :
    k0_pay45 (F := Ideal) c0 c1 c2 c3 c4 c5 c6 (k0_pay43 t img) (k0_pay44 t img)
      = concatenate S8x8 1 [⟨S8x1, c0⟩, ⟨S8x1, c1⟩, ⟨S8x1, c2⟩, ⟨S8x1, c3⟩, ⟨S8x1, c4⟩, ⟨S8x1, c5⟩, ⟨S8x1, c6⟩,
        ⟨S8x1, k0_pay31 t img⟩] concatenates_S8x1_S8x1_S8x1_S8x1_S8x1_S8x1_S8x1_S8x1_S8x8_d1 := rfl

/-- The grounding table at one document and image, from the image blocks of its eight columns. -/
theorem table_at (d : FVec Ideal S512x1024 .f32) (i : Fin 8 → FVec Ideal S36x1024 .f32) (s v : Fin 8) :
    k0_pay45 (F := Ideal) (k0_pay30 (k0_pay28 d (i 0)) (k0_pay29 d (i 0))) (k0_pay31 (k0_pay27 d) (i 1)) (k0_pay32 (k0_pay27 d) (i 2))
      (k0_pay35 (k0_pay33 (k0_pay27 d) (i 3)) (k0_pay34 (k0_pay27 d) (i 3)))
      (k0_pay39 (k0_pay36 (k0_pay27 d) (i 4)) (k0_pay37 (k0_pay27 d) (i 4)) (k0_pay38 (k0_pay27 d) (i 4)))
      (k0_pay40 (k0_pay27 d) (i 5)) (k0_pay42 (k0_pay41 (k0_pay27 d) (i 6)) (Scalar.ofBits .f32 0x00000000#32))
      (k0_pay43 (k0_pay27 d) (i 7)) (k0_pay44 (k0_pay27 d) (i 7)) (ix2 s v)
      = ground (att (fun f k => d (ix2 ⟨(s : ℕ) * 64 + f, by omega⟩ k)) (fun r k => i v (ix2 r k))) := by
  rw [col0, col2, col3, col4, col5, col6, col7, doc_again, ← ground_at]
  generalize k0_pay31 (F := Ideal) d = c
  pointwise
  fin_vals v with hk <;> simp only [hk, Nat.reduceSub, Nat.reduceLT, ↓reduceDIte] <;>
    exact congrArg (fun w => c (i w) (ix2 s 0)) (Fin.ext hk.symm)

/-- The first linear part at one span and hidden unit. -/
theorem first_at (x : FVec Ideal S128x2324 .f32) (w : FVec Ideal S2324x1024 .f32) (p : Fin 128) (h : Fin 1024) :
    k0_pay46 (F := Ideal) x w (ix2 p h) = ∑ d, x (ix2 p d) * w (ix2 d h) := by
  pointwise [k0_pay46]

/-- The second linear part at one span and hidden unit: the four leading zero columns add nothing. -/
theorem second_at (x : FVec Ideal S128x2324 .f32) (w : FVec Ideal S2328x1024 .f32) (p : Fin 128) (h : Fin 1024) :
    k0_pay47 (F := Ideal) x w (ix2 p h) = ∑ d : Fin 2324, x (ix2 p d) * w (ix2 ⟨4 + d, by omega⟩ h) := by
  pointwise [k0_pay47]
  simp

/-- The third block of the weight table, change of format included, is itself. -/
theorem third_at (w : FVec Ideal S2324x1024 .f32) (d : Fin 2324) (h : Fin 1024) :
    k0_pay1 (F := Ideal) w (ix2 d h) = w (ix2 d h) := by
  pointwise [k0_pay1]

end Cert.KernelIdeal.Pure

end
-- ==== Proof.Agree.lean ====
module

public import proofs.«01_k».proof.Proof.Trip
public import proofs.«01_k».proof.Proof.PureD
public import proofs.«01_k».proof.Proof.PureB

/-! The pair scores and the agreement of two documents, as the kernel's three launches compute them. -/

@[expose] public section

set_option maxRecDepth 16384

noncomputable section

namespace Cert.KernelIdeal.Run

open Idealize.ShloMosaic Idealize.ShloMosaic.TcCoe Idealize.SL.Sem
open Cert.KernelIdeal Cert.KernelIdeal.Gen Cert.KernelIdeal.Pure
open Cert.Spec

/-- A block of rows of the weight table. -/
theorem rows_at {n : ℕ} (w : FVec Ideal S6972x1024 .f32) (o : ℕ) (inb) (d : Fin n) (h : Fin 1024) (b : o + d < 6972) :
    View.ld (Val := Elt Ideal) (e' := .f32) w (Rect.unit (s := S6972x1024) ![o, 0] ![n, 1024] inb) (ix2 d h) = w (ix2 ⟨o + d, b⟩ h) := by
  refine congrArg w ?_
  funext a; fin_cases a <;> exact Fin.ext (by simp [Rect.emb, Rect.unit])

/-- The score of two spans from the span table and the weights. -/
theorem score_pair (x : FVec Ideal S128x2324 .f32) (w1 : FVec Ideal S6972x1024 .f32) (w2 : FVec Ideal S1024x1024 .bf16)
    (w3 : FVec Ideal S1024x1 .f32) (b1 b2 : FVec Ideal S1x1024 .f32) (b3 : FVec Ideal S1x1 .f32) (p q : Fin 128) (i0 i1 i2) :
    score x x (k0_pay1 (F := Ideal) (View.ld (Val := Elt Ideal) (e' := .f32) w1 (Rect.unit (s := S6972x1024) ![4648, 0] ![2324, 1024] i2))) w2 w3
      (k0_pay46 (F := Ideal) x (View.ld (Val := Elt Ideal) (e' := .f32) w1 (Rect.unit (s := S6972x1024) ![0, 0] ![2324, 1024] i0)))
      (k0_pay47 (F := Ideal) x (View.ld (Val := Elt Ideal) (e' := .f32) w1 (Rect.unit (s := S6972x1024) ![2320, 0] ![2328, 1024] i1)))
      b1 b2 b3 p q
      = pair (fun d => x (ix2 p d)) (fun d => x (ix2 q d)) (fun d h => w1 (ix2 d h)) (fun h => b1 (ix2 0 h)) (fun h k => w2 (ix2 h k))
        (fun k => b2 (ix2 0 k)) (fun k => w3 (ix2 k 0)) (b3 (ix2 0 0)) := by
  have r0 : ∀ (d : Fin 2324) h, View.ld (Val := Elt Ideal) (e' := .f32) w1 (Rect.unit (s := S6972x1024) ![0, 0] ![2324, 1024] i0) (ix2 d h)
      = w1 (ix2 ⟨d, by omega⟩ h) := fun d h =>
    (rows_at w1 0 i0 d h (by omega)).trans (congrArg (fun r => w1 (ix2 r h)) (Fin.ext (Nat.zero_add _)))
  have r1 : ∀ (d : Fin 2324) h, View.ld (Val := Elt Ideal) (e' := .f32) w1 (Rect.unit (s := S6972x1024) ![2320, 0] ![2328, 1024] i1) (ix2 ⟨4 + d, by omega⟩ h)
      = w1 (ix2 ⟨2324 + d, by omega⟩ h) := fun d h =>
    (rows_at w1 2320 i1 ⟨4 + d, by omega⟩ h (by dsimp only; omega)).trans (congrArg (fun r => w1 (ix2 r h)) (Fin.ext (by dsimp only; omega)))
  have r2 : ∀ (d : Fin 2324) h, View.ld (Val := Elt Ideal) (e' := .f32) w1 (Rect.unit (s := S6972x1024) ![4648, 0] ![2324, 1024] i2) (ix2 d h)
      = w1 (ix2 ⟨4648 + d, by omega⟩ h) := fun d h => rows_at w1 4648 i2 d h (by omega)
  unfold score pair
  simp only [first_at, second_at, third_at, r0, r1, r2]
  have turn : ∀ z a b : EReal, z + a + b = a + b + z := fun z a b => by rw [add_assoc, add_comm]
  refine congrArg (· + b3 (ix2 0 0)) (Finset.sum_congr rfl fun k _ => ?_)
  refine congrArg (fun e => max (e + b2 (ix2 0 k)) 0 * w3 (ix2 k 0)) (Finset.sum_congr rfl fun h _ => ?_)
  exact congrArg (fun e => max (e + b1 (ix2 0 h)) 0 * w2 (ix2 h k)) (turn _ _ _)

/-- The largest of equal entries, none below the pattern of minus infinity. -/
theorem rowMax_same {n : ℕ} (f : Fin n → EReal) : rowMax (fun _ : Fin 128 => rowMax f) = rowMax f := by
  refine le_antisymm ?_ ?_
  · exact (Finset.fold_max_le _).2 ⟨(Finset.le_fold_max _).2 (Or.inl le_rfl), fun _ _ => le_rfl⟩
  · exact (Finset.le_fold_max _).2 (Or.inr ⟨0, Finset.mem_univ _, le_rfl⟩)

/-- The word of the float sixteen. -/
theorem sixteen_f32 : Ideal.ofBits .f32 0x41800000#32 = 16 := by
  have h : Ideal.ofBits .f32 0x41800000#32 = ((16 : ℝ) : EReal) := by
    simp [Ideal.ofBits, Ideal.ieee, -EReal.coe_mul]; norm_num
  exact h

/-- The word of the float eight. -/
theorem eight_f32 : Ideal.ofBits .f32 0x41000000#32 = 8 := by
  have h : Ideal.ofBits .f32 0x41000000#32 = ((8 : ℝ) : EReal) := by
    simp [Ideal.ofBits, Ideal.ieee, -EReal.coe_mul]; norm_num
  exact h

/-- The word of the float one half. -/
theorem half_f32 : Ideal.ofBits .f32 0x3F000000#32 = ((1 / 2 : ℝ) : EReal) := by
  simp [Ideal.ofBits, Ideal.ieee, -EReal.coe_mul]; norm_num

/-- The agreement of document `s` with image `v`, from the tables of pair scores. -/
theorem half_at (t : Fin 8 → FVec Ideal S128x16 .f32) (s v : Fin 8) :
    half (fun y : S8x16x128.Idx => k1_pay3 (F := Ideal) (t (y 0)) (ix3 0 (y 1) (y 2))) s v
      = agree fun i j => t v (ix2 ⟨(s : ℕ) * 16 + i, by omega⟩ j) := by
  have up : ∀ q : Fin 128, k1_pay3 (F := Ideal) (t v) (ix3 0 ⟨(s : ℕ), by omega⟩ q)
      = rowMax fun i : Fin 16 => Ideal.div (∑ j, t v (ix2 ⟨(s : ℕ) * 16 + i, by omega⟩ j)) 16 := fun q => by
    rw [best_at, dif_pos s.isLt, sixteen_f32]
  have down : ∀ q : Fin 128, k1_pay3 (F := Ideal) (t v) (ix3 0 ⟨8 + (s : ℕ), by omega⟩ q)
      = rowMax fun j : Fin 16 => Ideal.div (∑ i : Fin 16, t v (ix2 ⟨(s : ℕ) * 16 + i, by omega⟩ j)) 16 := fun q => by
    rw [best_at, dif_neg (by dsimp only; omega), sixteen_f32]
    simp only [Nat.add_sub_cancel_left]
  have d2 : ∀ x : EReal, Ideal.div x 2 = x * ((1 / 2 : ℝ) : EReal) := fun x => Ideal.div_coe (y := 2) two_ne_zero x
  unfold half agree
  rw [d2, half_f32, mul_comm]
  refine congrArg (· * ((1 / 2 : ℝ) : EReal)) (congr (congrArg HAdd.hAdd ?_) ?_)
  · exact (congrArg rowMax (funext up)).trans (rowMax_same _)
  · exact (congrArg rowMax (funext down)).trans (rowMax_same _)

end Cert.KernelIdeal.Run

end
-- ==== Proof.PureA.lean ====
module

public import proofs.«01_k».proof.Proof.Gen.KernelIdeal.Skeleton
public import proofs.«01_k».proof.Proof.Spec
public import Idealize.ShloMosaic.Lib.IdealHost

/-! The first launch's vector values read at one entry: token scores, the softmax over a span's tokens, the
    weighted sum, the width features and the concatenated span embedding. -/

@[expose] public section

set_option maxRecDepth 16384

noncomputable section

namespace Cert.KernelIdeal.Pure

open Idealize.ShloMosaic
open Cert.KernelIdeal Cert.KernelIdeal.Gen
open Cert.Spec

/-- A token's score column, bias included, at one span. -/
theorem score_at (ct : FVec Ideal S128x1x768 .f32) (w1 : FVec Ideal S768x1024 .f32) (b1 : FVec Ideal S1x1024 .f32)
    (w2 : FVec Ideal S1024x1 .f32) (b2 : FVec Ideal S1x1 .f32) (p : Fin 128) :
    k0_pay3 (F := Ideal) ct w1 b1 w2 b2 (ix2 p 0) = tokScore (fun d => ct (ix3 p 0 d)) (fun d h => w1 (ix2 d h))
      (fun h => b1 (ix2 0 h)) (fun h => w2 (ix2 h 0)) (b2 (ix2 0 0)) := by
  pointwise [k0_pay3]
  rfl

/-- Scoring without the bias and adding the bias after gives the same column. -/
theorem score5 (ct : FVec Ideal S128x1x768 .f32) (w1 : FVec Ideal S768x1024 .f32) (b1 : FVec Ideal S1x1024 .f32)
    (w2 : FVec Ideal S1024x1 .f32) (b2 : FVec Ideal S1x1 .f32) :
    k0_pay5 (F := Ideal) (k0_pay4 ct w1 b1 w2) b2 = k0_pay3 ct w1 b1 w2 b2 := rfl

/-- The second token pair: the same column. -/
theorem score6 : k0_pay6 (F := Ideal) = k0_pay3 := rfl
/-- The fourth token: the same column. -/
theorem score8 (ct : FVec Ideal S128x1x768 .f32) (w1 : FVec Ideal S768x1024 .f32) (b1 : FVec Ideal S1x1024 .f32)
    (w2 : FVec Ideal S1024x1 .f32) (b2 : FVec Ideal S1x1 .f32) :
    k0_pay8 (F := Ideal) (k0_pay7 ct w1 b1 w2) b2 = k0_pay3 ct w1 b1 w2 b2 := rfl
/-- The fifth token: the same column. -/
theorem score9 : k0_pay9 (F := Ideal) = k0_pay3 := rfl
/-- The sixth token: the same column. -/
theorem score11 (ct : FVec Ideal S128x1x768 .f32) (w1 : FVec Ideal S768x1024 .f32) (b1 : FVec Ideal S1x1024 .f32)
    (w2 : FVec Ideal S1024x1 .f32) (b2 : FVec Ideal S1x1 .f32) :
    k0_pay11 (F := Ideal) (k0_pay10 ct w1 b1 w2) b2 = k0_pay3 ct w1 b1 w2 b2 := rfl
/-- The seventh token: the same column. -/
theorem score12 : k0_pay12 (F := Ideal) = k0_pay3 := rfl
/-- The eighth token: the same column. -/
theorem score14 (ct : FVec Ideal S128x1x768 .f32) (w1 : FVec Ideal S768x1024 .f32) (b1 : FVec Ideal S1x1024 .f32)
    (w2 : FVec Ideal S1024x1 .f32) (b2 : FVec Ideal S1x1 .f32) :
    k0_pay14 (F := Ideal) (k0_pay13 ct w1 b1 w2) b2 = k0_pay3 ct w1 b1 w2 b2 := rfl
/-- The ninth token: the same column. -/
theorem score15 : k0_pay15 (F := Ideal) = k0_pay3 := rfl

/-- The last token's score: the column without its bias, plus the bias. -/
theorem score16_at (ct : FVec Ideal S128x1x768 .f32) (w1 : FVec Ideal S768x1024 .f32) (b1 : FVec Ideal S1x1024 .f32)
    (w2 : FVec Ideal S1024x1 .f32) (b2 : FVec Ideal S1x1 .f32) (p : Fin 128) :
    k0_pay16 (F := Ideal) ct w1 b1 w2 (ix2 p 0) + b2 (ix2 0 0) = tokScore (fun d => ct (ix3 p 0 d)) (fun d h => w1 (ix2 d h))
      (fun h => b1 (ix2 0 h)) (fun h => w2 (ix2 h 0)) (b2 (ix2 0 0)) := by
  pointwise [k0_pay16]
  rfl

/-- The ten score columns at one span, in order. -/
theorem cols_at (wd c0 c1 c2 c3 c4 c5 c6 c7 c8 c9 : FVec Ideal S128x1 .f32) (b2 : FVec Ideal S1x1 .f32) (p : Fin 128)
    (wid : BitVec 32) (sc : Fin 10 → EReal)
    (hw : wd (ix2 p 0) = FloatOps.sitofp (F := Ideal) .f32 wid)
    (h0 : c0 (ix2 p 0) = sc 0) (h1 : c1 (ix2 p 0) = sc 1) (h2 : c2 (ix2 p 0) = sc 2) (h3 : c3 (ix2 p 0) = sc 3)
    (h4 : c4 (ix2 p 0) = sc 4) (h5 : c5 (ix2 p 0) = sc 5) (h6 : c6 (ix2 p 0) = sc 6) (h7 : c7 (ix2 p 0) = sc 7)
    (h8 : c8 (ix2 p 0) = sc 8) (h9 : c9 (ix2 p 0) + b2 (ix2 0 0) = sc 9) (t : Fin 10) :
    k0_pay17 (F := Ideal) wd c0 c1 c2 c3 c4 c5 c6 c7 c8 c9 b2 (ix2 p t) = soft (maskedScore wid sc) t := by
  have cut : ∀ t : Fin 10, (FloatOps.sitofp (F := Ideal) FTy.f32 (BitVec.ofNat 32 (t : ℕ)) < wd (ix2 p 0)) ↔ ((t : ℕ) : ℤ) < wid.toInt := by
    intro t
    rw [hw]
    show ((((BitVec.ofNat 32 (t : ℕ)).toInt : ℝ) : EReal) < ((wid.toInt : ℝ) : EReal)) ↔ _
    rw [EReal.coe_lt_coe_iff, Int.cast_lt]
    have : (BitVec.ofNat 32 (t : ℕ)).toInt = ((t : ℕ) : ℤ) := by
      fin_vals t with hk <;> (simp only [hk]; rfl)
    rw [this]
  have row : ∀ t : Fin 10, select (cmpf (F := Ideal) (φ := .f32) .olt (sitofp .f32 (iota .tc S128x10 32 [1] iota_S128x10_d1_w32))
        (broadcastTo S128x10 wd broadcasts_S128x1_S128x10))
      (concatenate S128x10 1 [⟨S128x1, c0⟩, ⟨S128x1, c1⟩, ⟨S128x1, c2⟩, ⟨S128x1, c3⟩, ⟨S128x1, c4⟩, ⟨S128x1, c5⟩, ⟨S128x1, c6⟩,
        ⟨S128x1, c7⟩, ⟨S128x1, c8⟩, ⟨S128x1, addf c9 (broadcastTo S128x1 (shapeCast S1x1 b2 shapeCasts_S1x1_S1x1) broadcasts_S1x1_S128x1)⟩]
        concatenates_S128x1_S128x1_S128x1_S128x1_S128x1_S128x1_S128x1_S128x1_S128x1_S128x1_S128x10_d1)
      (broadcast S128x10 (Scalar.ofBits (F := Ideal) .f32 0xD01502F9#32)) (ix2 p t) = maskedScore wid sc t := by
    intro t
    unfold maskedScore
    simp only [← cut]
    pointwise
    refine if_congr Iff.rfl ?_ rfl
    fin_vals t with hk <;> simp only [hk, Nat.reduceSub, Nat.reduceLT, ↓reduceDIte] <;> first
      | (obtain rfl : t = 0 := Fin.ext hk; exact h0) | (obtain rfl : t = 1 := Fin.ext hk; exact h1)
      | (obtain rfl : t = 2 := Fin.ext hk; exact h2) | (obtain rfl : t = 3 := Fin.ext hk; exact h3)
      | (obtain rfl : t = 4 := Fin.ext hk; exact h4) | (obtain rfl : t = 5 := Fin.ext hk; exact h5)
      | (obtain rfl : t = 6 := Fin.ext hk; exact h6) | (obtain rfl : t = 7 := Fin.ext hk; exact h7)
      | (obtain rfl : t = 8 := Fin.ext hk; exact h8) | (obtain rfl : t = 9 := Fin.ext hk; exact h9)
  unfold k0_pay17
  generalize select _ _ _ = z at row ⊢
  unfold soft rowMax
  simp only [← row]
  pointwise

/-- A sum over ten positions, written out. -/
theorem sum_ten (f : Fin 10 → EReal) :
    ∑ t, f t = f 0 + f 1 + f 2 + f 3 + f 4 + f 5 + f 6 + f 7 + f 8 + f 9 := by
  rw [Fin.sum_univ_castSucc, Fin.sum_univ_castSucc, Fin.sum_univ_eight]; rfl

/-- The weighted sum of the token features, accumulated token by token, is the sum over the ten tokens. -/
theorem weighted_at (wd c0 c1 c2 c3 c4 c5 c6 c7 c8 c9 : FVec Ideal S128x1 .f32) (b2 : FVec Ideal S1x1 .f32)
    (t0 t1 t2 t3 t4 t5 t6 t7 t8 t9 : FVec Ideal S128x1x768 .f32) (p : Fin 128) (d : Fin 768)
    (wid : BitVec 32) (sc : Fin 10 → EReal) (ct : Fin 10 → Fin 768 → EReal)
    (hc : ∀ t : Fin 10, k0_pay17 (F := Ideal) wd c0 c1 c2 c3 c4 c5 c6 c7 c8 c9 b2 (ix2 p t) = soft (maskedScore wid sc) t)
    (h0 : t0 (ix3 p 0 d) = ct 0 d) (h1 : t1 (ix3 p 0 d) = ct 1 d) (h2 : t2 (ix3 p 0 d) = ct 2 d)
    (h3 : t3 (ix3 p 0 d) = ct 3 d) (h4 : t4 (ix3 p 0 d) = ct 4 d) (h5 : t5 (ix3 p 0 d) = ct 5 d)
    (h6 : t6 (ix3 p 0 d) = ct 6 d) (h7 : t7 (ix3 p 0 d) = ct 7 d) (h8 : t8 (ix3 p 0 d) = ct 8 d)
    (h9 : t9 (ix3 p 0 d) = ct 9 d) :
    k0_pay21 (F := Ideal) (k0_pay17 wd c0 c1 c2 c3 c4 c5 c6 c7 c8 c9 b2)
      (k0_pay18 wd c0 c1 c2 c3 c4 c5 c6 c7 c8 c9 b2 t0 t1 t2) (k0_pay19 t3)
      (k0_pay20 wd c0 c1 c2 c3 c4 c5 c6 c7 c8 c9 b2) t4 t5 t6 t7 t8 t9 (ix2 p d)
      = ∑ t, soft (maskedScore wid sc) t * ct t d := by
  unfold k0_pay18 k0_pay20
  generalize k0_pay17 (F := Ideal) wd c0 c1 c2 c3 c4 c5 c6 c7 c8 c9 b2 = z at hc ⊢
  pointwise [k0_pay21, k0_pay19]
  rw [sum_ten]
  simp only [← hc, ← h0, ← h1, ← h2, ← h3, ← h4, ← h5, ← h6, ← h7, ← h8, ← h9]

/-- The single-precision word of two. -/
theorem bits_two : Ideal.ofBits .f32 0x40000000#32 = ((2 : ℝ) : EReal) := by
  simp [Ideal.ofBits, Ideal.ieee, -EReal.coe_mul]; norm_num
/-- The single-precision word of three. -/
theorem bits_three : Ideal.ofBits .f32 0x40400000#32 = ((3 : ℝ) : EReal) := by
  simp [Ideal.ofBits, Ideal.ieee, -EReal.coe_mul]; norm_num
/-- The single-precision word of four. -/
theorem bits_four : Ideal.ofBits .f32 0x40800000#32 = ((4 : ℝ) : EReal) := by
  simp [Ideal.ofBits, Ideal.ieee, -EReal.coe_mul]; norm_num

/-- A width cut at four, as a real. -/
theorem cut_width (wid : BitVec 32) (hpos : 0 ≤ wid.toInt) :
    min (FloatOps.sitofp (F := Ideal) .f32 wid) ((4 : ℝ) : EReal) = (((widthRow wid : ℕ) : ℝ) : EReal) := by
  show min (((wid.toInt : ℤ) : ℝ) : EReal) ((4 : ℝ) : EReal) = _
  rw [← EReal.coe_strictMono.monotone.map_min]
  congr 1
  show min ((wid.toInt : ℤ) : ℝ) 4 = ((min wid.toInt.toNat 4 : ℕ) : ℝ)
  obtain ⟨n, hn⟩ := Int.eq_ofNat_of_zero_le hpos
  rw [hn, Int.toNat_natCast, Nat.cast_min]
  simp

/-- A comparison of the cut width with a real, decided among the naturals. -/
theorem cut_eq (r : Fin 5) (k : ℕ) : ((((r : ℕ) : ℝ) : EReal) = (((k : ℕ) : ℝ) : EReal)) ↔ (r : ℕ) = k := by
  rw [EReal.coe_eq_coe_iff, Nat.cast_inj]

/-- Five rows weighted by the indicator of the cut width leave the row it selects. -/
theorem one_hot (r : Fin 5) (x : EReal) (hx : x = (((r : ℕ) : ℝ) : EReal)) (f : Fin 5 → EReal) [Decidable (x = 0)] [Decidable (x = 1)]
    [Decidable (x = ((2 : ℝ) : EReal))] [Decidable (x = ((3 : ℝ) : EReal))] [Decidable (x = ((4 : ℝ) : EReal))] :
    (if x = 0 then (1 : EReal) else 0) * f 0 + (if x = 1 then (1 : EReal) else 0) * f 1
      + (if x = ((2 : ℝ) : EReal) then (1 : EReal) else 0) * f 2
      + (if x = ((3 : ℝ) : EReal) then (1 : EReal) else 0) * f 3
      + (if x = ((4 : ℝ) : EReal) then (1 : EReal) else 0) * f 4 = f r := by
  have e0 := cut_eq r 0
  have e1 := cut_eq r 1
  have e2 := cut_eq r 2
  have e3 := cut_eq r 3
  have e4 := cut_eq r 4
  simp only [Nat.cast_zero, Nat.cast_one, Nat.cast_ofNat, EReal.coe_zero, EReal.coe_one, ← hx] at e0 e1 e2 e3 e4
  simp only [e0, e1, e2, e3, e4]
  clear e0 e1 e2 e3 e4 hx
  fin_cases r <;> simp

/-- The span embedding's entry, of a span of non-negative width: the start and end features, the given middle part,
    and the row of the width table that the width selects. -/
theorem concat_at (wd : FVec Ideal S128x1 .f32) (e0 e1 e2 e3 e4 : FVec Ideal S1x20 .f32) (p : Fin 128) (d : Fin 2324)
    (wid : BitVec 32) (hw : wd (ix2 p 0) = FloatOps.sitofp (F := Ideal) .f32 wid) (hpos : 0 ≤ wid.toInt)
    (we : Fin 5 → Fin 20 → EReal)
    (h0 : ∀ j, e0 (ix2 0 j) = we 0 j) (h1 : ∀ j, e1 (ix2 0 j) = we 1 j) (h2 : ∀ j, e2 (ix2 0 j) = we 2 j)
    (h3 : ∀ j, e3 (ix2 0 j) = we 3 j) (h4 : ∀ j, e4 (ix2 0 j) = we 4 j)
    (W : FVec Ideal S128x768 .f32) (se : FVec Ideal S128x1536 .f32) :
    k0_pay25 (F := Ideal) W (k0_pay22 wd) (k0_pay23 (k0_pay22 wd) (Scalar.ofBits .f32 0x00000000#32) e0 e1 e2)
      (k0_pay24 (k0_pay22 wd) e3) e4 se (ix2 p d)
      = if h : (d : ℕ) < 1536 then se (ix2 p ⟨d, h⟩)
        else if h' : (d : ℕ) - 1536 < 768 then W (ix2 p ⟨(d : ℕ) - 1536, h'⟩)
        else we (widthRow wid) ⟨(d : ℕ) - 1536 - 768, by omega⟩ := by
  pointwise [k0_pay25, k0_pay24, k0_pay23, k0_pay22]
  by_cases h : (d : ℕ) < 1536
  · rw [dif_pos h, dif_pos h]
  by_cases h' : (d : ℕ) - 1536 < 768
  · rw [dif_neg h, dif_pos h', dif_neg h, dif_pos h']
  rw [dif_neg h, dif_neg h', dif_neg h, dif_neg h']
  simp only [h0, h1, h2, h3, h4, bits_two, bits_three, bits_four]
  exact one_hot (widthRow wid) _ (by rw [hw]; exact cut_width wid hpos) fun r => we r ⟨(d : ℕ) - 1536 - 768, by omega⟩

end Cert.KernelIdeal.Pure

end
-- ==== Proof.Rows.lean ====
module

public import proofs.«01_k».proof.Proof.PureA
public import proofs.«01_k».proof.Proof.PureB
public import Idealize.ShloMosaic.Lib.Pipeline.ValueKit

/-! The first launch's outputs as functions of its whole input blocks: the span table, the three linear parts of the pair
network's first layer, and the grounding table. -/

@[expose] public section

set_option maxRecDepth 16384

noncomputable section

namespace Cert.KernelIdeal.Pure

open Idealize.ShloMosaic
open Cert.KernelIdeal Cert.KernelIdeal.Gen
open Cert.Spec

/-- The attended token features of every span, from the width column, the ten score columns (the last without its bias)
    and the ten token slices. -/
def feats (wd c0 c1 c2 c3 c4 c5 c6 c7 c8 c9 : FVec Ideal S128x1 .f32) (b2 : FVec Ideal S1x1 .f32)
    (t0 t1 t2 t3 t4 t5 t6 t7 t8 t9 : FVec Ideal S128x1x768 .f32) : FVec Ideal S128x768 .f32 :=
  k0_pay21 (k0_pay17 wd c0 c1 c2 c3 c4 c5 c6 c7 c8 c9 b2) (k0_pay18 wd c0 c1 c2 c3 c4 c5 c6 c7 c8 c9 b2 t0 t1 t2) (k0_pay19 t3)
    (k0_pay20 wd c0 c1 c2 c3 c4 c5 c6 c7 c8 c9 b2) t4 t5 t6 t7 t8 t9

/-- The same with the score columns computed from the token slices. -/
def attended (wd : FVec Ideal S128x1 .f32) (w1 : FVec Ideal S768x1024 .f32) (b1 : FVec Ideal S1x1024 .f32)
    (w2 : FVec Ideal S1024x1 .f32) (b2 : FVec Ideal S1x1 .f32) (t0 t1 t2 t3 t4 t5 t6 t7 t8 t9 : FVec Ideal S128x1x768 .f32) :
    FVec Ideal S128x768 .f32 :=
  feats wd (k0_pay3 t0 w1 b1 w2 b2) (k0_pay5 (k0_pay4 t1 w1 b1 w2) b2) (k0_pay6 t2 w1 b1 w2 b2) (k0_pay8 (k0_pay7 t3 w1 b1 w2) b2)
    (k0_pay9 t4 w1 b1 w2 b2) (k0_pay11 (k0_pay10 t5 w1 b1 w2) b2) (k0_pay12 t6 w1 b1 w2 b2) (k0_pay14 (k0_pay13 t7 w1 b1 w2) b2)
    (k0_pay15 t8 w1 b1 w2 b2) (k0_pay16 t9 w1 b1 w2) b2 t0 t1 t2 t3 t4 t5 t6 t7 t8 t9

/-- The slice of one token of every span. -/
abbrev tokenSlice (ct : FVec Ideal S128x10x768 .f32) (t : ℕ)
    (inb : ∀ a, (![0, t, 0] : Fin 3 → ℕ) a + (![128, 1, 768] : Fin 3 → ℕ) a ≤ S128x10x768.size a) : FVec Ideal S128x1x768 .f32 :=
  View.ld (Val := Elt Ideal) (e' := .f32) ct (Rect.unit (s := S128x10x768) ![0, t, 0] ![128, 1, 768] inb)

/-- One row of the width table. -/
abbrev widthSlice (we : FVec Ideal S5x20 .f32) (r : ℕ)
    (inb : ∀ a, (![r, 0] : Fin 2 → ℕ) a + (![1, 20] : Fin 2 → ℕ) a ≤ S5x20.size a) : FVec Ideal S1x20 .f32 :=
  View.ld (Val := Elt Ideal) (e' := .f32) we (Rect.unit (s := S5x20) ![r, 0] ![1, 20] inb)

/-- The image features of one image. -/
abbrev imageSlice (im : FVec Ideal S288x1024 .f32) (r : ℕ)
    (inb : ∀ a, (![r, 0] : Fin 2 → ℕ) a + (![36, 1024] : Fin 2 → ℕ) a ≤ S288x1024.size a) : FVec Ideal S36x1024 .f32 :=
  View.ld (Val := Elt Ideal) (e' := .f32) im (Rect.unit (s := S288x1024) ![r, 0] ![36, 1024] inb)

/-- The attended features of all spans, from the block of ten tokens per span. -/
def attendedOf (ct : FVec Ideal S128x10x768 .f32) (wd : FVec Ideal S128x1 .f32) (w1 : FVec Ideal S768x1024 .f32)
    (b1 : FVec Ideal S1x1024 .f32) (w2 : FVec Ideal S1024x1 .f32) (b2 : FVec Ideal S1x1 .f32) : FVec Ideal S128x768 .f32 :=
  attended (k0_pay2 wd) w1 b1 w2 b2
    (tokenSlice ct 0 inb_S128x10x768_S128x1x768_0_0_0)
    (tokenSlice ct 1 inb_S128x10x768_S128x1x768_0_1_0)
    (tokenSlice ct 2 inb_S128x10x768_S128x1x768_0_2_0)
    (tokenSlice ct 3 inb_S128x10x768_S128x1x768_0_3_0)
    (tokenSlice ct 4 inb_S128x10x768_S128x1x768_0_4_0)
    (tokenSlice ct 5 inb_S128x10x768_S128x1x768_0_5_0)
    (tokenSlice ct 6 inb_S128x10x768_S128x1x768_0_6_0)
    (tokenSlice ct 7 inb_S128x10x768_S128x1x768_0_7_0)
    (tokenSlice ct 8 inb_S128x10x768_S128x1x768_0_8_0)
    (tokenSlice ct 9 inb_S128x10x768_S128x1x768_0_9_0)

/-- The table of span embeddings, from the first launch's input blocks. -/
def spans (se : FVec Ideal S128x1536 .f32) (ct : FVec Ideal S128x10x768 .f32) (wd : FVec Ideal S128x1 .f32)
    (w1 : FVec Ideal S768x1024 .f32) (b1 : FVec Ideal S1x1024 .f32) (w2 : FVec Ideal S1024x1 .f32) (b2 : FVec Ideal S1x1 .f32)
    (we : FVec Ideal S5x20 .f32) : FVec Ideal S128x2324 .f32 :=
  k0_pay25 (attendedOf ct wd w1 b1 w2 b2) (k0_pay22 (k0_pay2 wd))
    (k0_pay23 (k0_pay22 (k0_pay2 wd)) (Scalar.ofBits .f32 0x00000000#32)
      (widthSlice we 0 inb_S5x20_S1x20_0_0)
      (widthSlice we 1 inb_S5x20_S1x20_1_0)
      (widthSlice we 2 inb_S5x20_S1x20_2_0))
    (k0_pay24 (k0_pay22 (k0_pay2 wd)) (widthSlice we 3 inb_S5x20_S1x20_3_0))
    (widthSlice we 4 inb_S5x20_S1x20_4_0) se

/-- The width column, change of shape included, is itself. -/
theorem width_again (wd : FVec Ideal S128x1 .f32) : k0_pay2 (F := Ideal) wd = wd := by
  funext j; idx_vars j; pointwise [k0_pay2]

/-- A token slice at one span and feature is the block's entry. -/
theorem tokenSlice_at (ct : FVec Ideal S128x10x768 .f32) (t : Fin 10) (inb) (p : Fin 128) (d : Fin 768) :
    tokenSlice ct t inb (ix3 p 0 d) = ct (ix3 p t d) := by
  refine congrArg ct ?_
  funext a; fin_cases a <;> exact Fin.ext (by simp [Rect.emb, Rect.unit])

/-- A row of the width table. -/
theorem widthSlice_at (we : FVec Ideal S5x20 .f32) (r : Fin 5) (inb) (d : Fin 20) :
    widthSlice we r inb (ix2 0 d) = we (ix2 r d) := by
  refine congrArg we ?_
  funext a; fin_cases a <;> exact Fin.ext (by simp [Rect.emb, Rect.unit])

/-- One image's features are rows of the block. -/
theorem imageSlice_at (im : FVec Ideal S288x1024 .f32) (v : Fin 8) (inb) (r : Fin 36) (k : Fin 1024) :
    imageSlice im (36 * (v : ℕ)) inb (ix2 r k) = im (ix2 ⟨(v : ℕ) * 36 + r, by omega⟩ k) := by
  refine congrArg im ?_
  funext a; fin_cases a <;> exact Fin.ext (by simp [Rect.emb, Rect.unit, mul_comm])

/-- The attended features of one span. -/
theorem attended_at (ct : FVec Ideal S128x10x768 .f32) (wd : FVec Ideal S128x1 .f32) (w1 : FVec Ideal S768x1024 .f32)
    (b1 : FVec Ideal S1x1024 .f32) (w2 : FVec Ideal S1024x1 .f32) (b2 : FVec Ideal S1x1 .f32) (p : Fin 128) (d : Fin 768)
    (wid : BitVec 32) (hw : wd (ix2 p 0) = FloatOps.sitofp (F := Ideal) .f32 wid) :
    attendedOf ct wd w1 b1 w2 b2 (ix2 p d)
      = ∑ t, soft (maskedScore wid fun t => tokScore (fun d => ct (ix3 p t d)) (fun d h => w1 (ix2 d h)) (fun h => b1 (ix2 0 h))
          (fun h => w2 (ix2 h 0)) (b2 (ix2 0 0))) t * ct (ix3 p t d) := by
  have sl : ∀ t inb, (fun d => tokenSlice ct (t : Fin 10) inb (ix3 p 0 d)) = fun d => ct (ix3 p t d) :=
    fun t inb => funext fun d => tokenSlice_at ct t inb p d
  have sc : ∀ t inb, k0_pay3 (F := Ideal) (tokenSlice ct (t : Fin 10) inb) w1 b1 w2 b2 (ix2 p 0)
      = tokScore (fun d => ct (ix3 p t d)) (fun d h => w1 (ix2 d h)) (fun h => b1 (ix2 0 h)) (fun h => w2 (ix2 h 0)) (b2 (ix2 0 0)) :=
    fun t inb => (score_at _ _ _ _ _ p).trans (by rw [sl])
  unfold attendedOf attended feats
  rw [width_again, score5, score6, score8, score9, score11, score12, score14, score15]
  refine weighted_at _ _ _ _ _ _ _ _ _ _ _ _ _ _ _ _ _ _ _ _ _ _ p d wid
    (fun t => tokScore (fun d => ct (ix3 p t d)) (fun d h => w1 (ix2 d h)) (fun h => b1 (ix2 0 h)) (fun h => w2 (ix2 h 0)) (b2 (ix2 0 0)))
    (fun t d => ct (ix3 p t d)) (fun t => ?_) (tokenSlice_at ct 0 _ p d) (tokenSlice_at ct 1 _ p d) (tokenSlice_at ct 2 _ p d)
    (tokenSlice_at ct 3 _ p d) (tokenSlice_at ct 4 _ p d) (tokenSlice_at ct 5 _ p d) (tokenSlice_at ct 6 _ p d)
    (tokenSlice_at ct 7 _ p d) (tokenSlice_at ct 8 _ p d) (tokenSlice_at ct 9 _ p d)
  exact cols_at _ _ _ _ _ _ _ _ _ _ _ _ p wid _ hw (sc 0 _) (sc 1 _) (sc 2 _) (sc 3 _) (sc 4 _) (sc 5 _) (sc 6 _) (sc 7 _) (sc 8 _)
    ((score16_at _ _ _ _ _ p).trans (by rw [show (fun d => tokenSlice ct 9 inb_S128x10x768_S128x1x768_0_9_0 (ix3 p 0 d)) = _ from sl 9 _])) t

/-- The embedding of one span. -/
theorem spans_at (se : FVec Ideal S128x1536 .f32) (ct : FVec Ideal S128x10x768 .f32) (wd : FVec Ideal S128x1 .f32)
    (w1 : FVec Ideal S768x1024 .f32) (b1 : FVec Ideal S1x1024 .f32) (w2 : FVec Ideal S1024x1 .f32) (b2 : FVec Ideal S1x1 .f32)
    (we : FVec Ideal S5x20 .f32) (p : Fin 128) (d : Fin 2324)
    (wid : BitVec 32) (hw : wd (ix2 p 0) = FloatOps.sitofp (F := Ideal) .f32 wid) (hpos : 0 ≤ wid.toInt) :
    spans se ct wd w1 b1 w2 b2 we (ix2 p d)
      = span (fun d => se (ix2 p d)) (fun t d => ct (ix3 p t d)) wid (fun d h => w1 (ix2 d h)) (fun h => b1 (ix2 0 h))
          (fun h => w2 (ix2 h 0)) (b2 (ix2 0 0)) (fun r d => we (ix2 r d)) d := by
  unfold spans span
  rw [width_again]
  refine (concat_at wd _ _ _ _ _ p d wid hw hpos (fun r d => we (ix2 r d)) (widthSlice_at we 0 _) (widthSlice_at we 1 _)
    (widthSlice_at we 2 _) (widthSlice_at we 3 _) (widthSlice_at we 4 _) _ _).trans ?_
  by_cases h : (d : ℕ) < 1536
  · rw [dif_pos h, dif_pos h]
  by_cases h' : (d : ℕ) - 1536 < 768
  · rw [dif_neg h, dif_neg h, dif_pos h', dif_pos h', attended_at _ _ _ _ _ _ _ _ wid hw]
  rw [dif_neg h, dif_neg h, dif_neg h', dif_neg h']

/-- The grounding table, from the document block and the block of all images. -/
def grounds (dc : FVec Ideal S512x1024 .f32) (im : FVec Ideal S288x1024 .f32) : FVec Ideal S8x8 .f32 :=
  let i0 := imageSlice im 0 inb_S288x1024_S36x1024_0_0
  let i1 := imageSlice im 36 inb_S288x1024_S36x1024_36_0
  let i2 := imageSlice im 72 inb_S288x1024_S36x1024_72_0
  let i3 := imageSlice im 108 inb_S288x1024_S36x1024_108_0
  let i4 := imageSlice im 144 inb_S288x1024_S36x1024_144_0
  let i5 := imageSlice im 180 inb_S288x1024_S36x1024_180_0
  let i6 := imageSlice im 216 inb_S288x1024_S36x1024_216_0
  let i7 := imageSlice im 252 inb_S288x1024_S36x1024_252_0
  k0_pay45 (k0_pay30 (k0_pay28 dc i0) (k0_pay29 dc i0)) (k0_pay31 (k0_pay27 dc) i1) (k0_pay32 (k0_pay27 dc) i2)
    (k0_pay35 (k0_pay33 (k0_pay27 dc) i3) (k0_pay34 (k0_pay27 dc) i3))
    (k0_pay39 (k0_pay36 (k0_pay27 dc) i4) (k0_pay37 (k0_pay27 dc) i4) (k0_pay38 (k0_pay27 dc) i4))
    (k0_pay40 (k0_pay27 dc) i5) (k0_pay42 (k0_pay41 (k0_pay27 dc) i6) (Scalar.ofBits .f32 0x00000000#32))
    (k0_pay43 (k0_pay27 dc) i7) (k0_pay44 (k0_pay27 dc) i7)

/-- The grounding score of one document and one image. -/
theorem grounds_at (dc : FVec Ideal S512x1024 .f32) (im : FVec Ideal S288x1024 .f32) (s v : Fin 8) :
    grounds dc im (ix2 s v)
      = ground (att (fun f k => dc (ix2 ⟨(s : ℕ) * 64 + f, by omega⟩ k)) (fun r k => im (ix2 ⟨(v : ℕ) * 36 + r, by omega⟩ k))) := by
  have inb : ∀ v : Fin 8, ∀ a, (![36 * (v : ℕ), 0] : Fin 2 → ℕ) a + (![36, 1024] : Fin 2 → ℕ) a ≤ S288x1024.size a := by
    decide
  refine (table_at dc (fun v => imageSlice im (36 * (v : ℕ)) (inb v)) s v).trans ?_
  congr 2
  funext r k
  exact imageSlice_at im v _ r k

end Cert.KernelIdeal.Pure

end
-- ==== Proof.Val0.lean ====
module

public import proofs.«01_k».proof.Proof.KI.Whole
public import proofs.«01_k».proof.Proof.Rows
public import Idealize.ShloMosaic.Lib.Pipeline.ValueKit
public import Idealize.ShloMosaic.Lib.Pipeline.ReadBack
public import Idealize.ShloMosaic.Lib.Pointwise

/-! What the first launch leaves in its six output arrays, as functions of the arrays it finds. -/

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.KernelIdeal.Pure

variable (V : (c : Dev nD) → (b : Ref sig .tc) → Buf (Elt Ideal) ((c : Thread nD τ).loc b))

/-- The window of a one-point launch is its whole array. -/
theorem blocks0 (c : Dev nD) : iblk0 V c 0 t0_0 = V c main_v0 ∧ iblk0 V c 1 t0_0 = V c main_v1 ∧ iblk0 V c 2 t0_0 = V c main_v3
    ∧ iblk0 V c 3 t0_0 = V c main_v4 ∧ iblk0 V c 4 t0_0 = V c main_v5 ∧ iblk0 V c 5 t0_0 = V c main_arg8
    ∧ iblk0 V c 6 t0_0 = V c main_v6 ∧ iblk0 V c 7 t0_0 = V c main_arg10 ∧ iblk0 V c 8 t0_0 = V c main_v7
    ∧ iblk0 V c 9 t0_0 = V c main_arg12 := by
  have idx : (∀ a, win0_0.index t0_0 a = 0) ∧ (∀ a, win0_1.index t0_0 a = 0) ∧ (∀ a, win0_2.index t0_0 a = 0)
      ∧ (∀ a, win0_3.index t0_0 a = 0) ∧ (∀ a, win0_4.index t0_0 a = 0) ∧ (∀ a, win0_5.index t0_0 a = 0)
      ∧ (∀ a, win0_6.index t0_0 a = 0) ∧ (∀ a, win0_7.index t0_0 a = 0) ∧ (∀ a, win0_8.index t0_0 a = 0)
      ∧ (∀ a, win0_9.index t0_0 a = 0) := by
    refine ⟨?_, ?_, ?_, ?_, ?_, ?_, ?_, ?_, ?_, ?_⟩ <;> decide +kernel
  obtain ⟨e0, e1, e2, e3, e4, e5, e6, e7, e8, e9⟩ := idx
  exact ⟨funext fun j => by blk_ext [iblk0, e0],
    funext fun j => by blk_ext [iblk0, e1],
    funext fun j => by blk_ext [iblk0, e2],
    funext fun j => by blk_ext [iblk0, e3],
    funext fun j => by blk_ext [iblk0, e4],
    funext fun j => by blk_ext [iblk0, e5],
    funext fun j => by blk_ext [iblk0, e6],
    funext fun j => by blk_ext [iblk0, e7],
    funext fun j => by blk_ext [iblk0, e8],
    funext fun j => by blk_ext [iblk0, e9]⟩

/-- The span table the first launch leaves, over the arrays it finds. -/
def spansOf (c : Dev nD) : FVec Ideal S128x2324 .f32 :=
  spans (V c main_v0) (V c main_v1) (V c main_v3) (V c main_arg8) (V c main_v6) (V c main_arg10) (V c main_v7) (V c main_arg12)

/-- A load from a buffer one whole store has filled reads the stored array there. -/
theorem readCov_whole {sp : Space} {S : Shape} {e : EltTy} (v : View sig .tc sp S e) (w : S.Idx → Elt Ideal e) (r : Rect S) :
    v.readCov [(⟨Rect.whole S, w⟩ : View.Piece (Elt Ideal) S e)] r.toLoadRect = View.ld w r := by
  rw [View.readCov_eq_canon']
  funext j
  have e : r.toLoadRect.idx j = (Rect.whole S).emb (r.emb j) :=
    funext fun a => Fin.ext (by simp [Rect.emb, Rect.whole]; rfl)
  rw [e]
  exact View.canon_cons_emb (Rect.whole S) w [] (r.emb j)

/-- The span table. -/
theorem out10 (c : Dev nD) : (dat0 V c).arrAt 10 cfg0.N = spansOf V c := by
  obtain ⟨e0, e1, e2, e3, e4, e5, e6, e7, e8, e9⟩ := blocks0 V c
  refine (dat0 V c).arrAt_eq_of_after_last 10 t0_0 (by decide +kernel) _ fun j => ?_
  blk_simp
  rw [after0_10]
  unfold outsAt0
  dsimp only
  frame_out
  simp only [read_unread_whole, e0, e1, e2, e3, e4, e5, e6, e7, e8, e9]
  rfl

/-- The span table in the narrow format: at exact numbers the same table. -/
theorem out11 (c : Dev nD) : (dat0 V c).arrAt 11 cfg0.N = spansOf V c := by
  obtain ⟨e0, e1, e2, e3, e4, e5, e6, e7, e8, e9⟩ := blocks0 V c
  refine (dat0 V c).arrAt_eq_of_after_last 11 t0_0 (by decide +kernel) _ fun j => ?_
  blk_simp
  rw [after0_11]
  unfold outsAt0
  dsimp only
  frame_out
  simp only [read_unread_whole, e0, e1, e2, e3, e4, e5, e6, e7, e8, e9]
  show k0_pay26 (F := Ideal) _ _ _ _ _ _ j = _
  unfold k0_pay26
  rfl

/-- The first linear part. -/
theorem out12 (c : Dev nD) : (dat0 V c).arrAt 12 cfg0.N = k0_pay46 (F := Ideal) (spansOf V c) (View.ld (Val := Elt Ideal) (e' := .f32) (V c main_arg13) (Rect.unit (s := S6972x1024) ![0, 0] ![2324, 1024] inb_S6972x1024_S2324x1024_0_0)) := by
  obtain ⟨e0, e1, e2, e3, e4, e5, e6, e7, e8, e9⟩ := blocks0 V c
  refine (dat0 V c).arrAt_eq_of_after_last 12 t0_0 (by decide +kernel) _ fun j => ?_
  blk_simp
  rw [after0_12]
  unfold outsAt0
  dsimp only
  frame_out
  simp only [read_unread_whole, e0, e1, e2, e3, e4, e5, e6, e7, e8, e9]
  rw [readCov_whole]
  rfl

/-- The second linear part, computed from rows two thousand three hundred and twenty on. -/
theorem out13 (c : Dev nD) : (dat0 V c).arrAt 13 cfg0.N = k0_pay47 (F := Ideal) (spansOf V c) (View.ld (Val := Elt Ideal) (e' := .f32) (V c main_arg13) (Rect.unit (s := S6972x1024) ![2320, 0] ![2328, 1024] inb_S6972x1024_S2328x1024_2320_0)) := by
  obtain ⟨e0, e1, e2, e3, e4, e5, e6, e7, e8, e9⟩ := blocks0 V c
  refine (dat0 V c).arrAt_eq_of_after_last 13 t0_0 (by decide +kernel) _ fun j => ?_
  blk_simp
  rw [after0_13]
  unfold outsAt0
  dsimp only
  frame_out
  simp only [read_unread_whole, e0, e1, e2, e3, e4, e5, e6, e7, e8, e9]
  rw [readCov_whole]
  rfl

/-- The grounding table. -/
theorem out14 (c : Dev nD) : (dat0 V c).arrAt 14 cfg0.N = grounds (V c main_v4) (V c main_v5) := by
  obtain ⟨e0, e1, e2, e3, e4, e5, e6, e7, e8, e9⟩ := blocks0 V c
  refine (dat0 V c).arrAt_eq_of_after_last 14 t0_0 (by decide +kernel) _ fun j => ?_
  blk_simp
  rw [after0_14]
  unfold outsAt0
  dsimp only
  frame_out
  simp only [read_unread_whole, e0, e1, e2, e3, e4, e5, e6, e7, e8, e9]
  rfl

/-- The third block of the first layer's weights. -/
theorem out15 (c : Dev nD) : (dat0 V c).arrAt 15 cfg0.N = k0_pay1 (F := Ideal) (View.ld (Val := Elt Ideal) (e' := .f32) (V c main_arg13) (Rect.unit (s := S6972x1024) ![4648, 0] ![2324, 1024] inb_S6972x1024_S2324x1024_4648_0)) := by
  obtain ⟨e0, e1, e2, e3, e4, e5, e6, e7, e8, e9⟩ := blocks0 V c
  refine (dat0 V c).arrAt_eq_of_after_last 15 t0_0 (by decide +kernel) _ fun j => ?_
  blk_simp
  rw [after0_15]
  unfold outsAt0
  dsimp only
  frame_out
  rw [readCov_whole]
  rfl

end Cert.KernelIdeal.Run

end
-- ==== Proof.Val1.lean ====
module

public import proofs.«01_k».proof.Proof.KI.Whole
public import proofs.«01_k».proof.Proof.Trip
public import Idealize.ShloMosaic.Lib.Pipeline.ValueKit
public import Idealize.ShloMosaic.Lib.Pipeline.ReadBack
public import Idealize.ShloMosaic.Lib.Pointwise

/-! What the second launch leaves in its output array, as a function of the arrays it finds. -/

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen Cert.KernelIdeal.Pure

variable (V : (c : Dev nD) → (b : Ref sig .tc) → Buf (Elt Ideal) ((c : Thread nD τ).loc b))

set_option maxHeartbeats 1000000 in
/-- Every input window of the second launch is its whole array, at every grid point. -/
theorem blocks1 (c : Dev nD) (t : Fin cfg1.N) : iblk1 V c 0 t = V c main_v11_0 ∧ iblk1 V c 1 t = V c main_v11_1 ∧ iblk1 V c 2 t = V c main_v11_5
    ∧ iblk1 V c 3 t = V c main_v12 ∧ iblk1 V c 4 t = V c main_arg17 ∧ iblk1 V c 5 t = V c main_v11_2
    ∧ iblk1 V c 6 t = V c main_v11_3 ∧ iblk1 V c 7 t = V c main_v8 ∧ iblk1 V c 8 t = V c main_v9
    ∧ iblk1 V c 9 t = V c main_v10 := by
  have idx : ∀ t : Fin cfg1.N, (∀ a, win1_0.index t a = 0) ∧ (∀ a, win1_1.index t a = 0) ∧ (∀ a, win1_2.index t a = 0)
      ∧ (∀ a, win1_3.index t a = 0) ∧ (∀ a, win1_4.index t a = 0) ∧ (∀ a, win1_5.index t a = 0)
      ∧ (∀ a, win1_6.index t a = 0) ∧ (∀ a, win1_7.index t a = 0) ∧ (∀ a, win1_8.index t a = 0)
      ∧ (∀ a, win1_9.index t a = 0) :=
    (by decide +kernel : ∀ t : Fin grid1.N, _)
  obtain ⟨e0, e1, e2, e3, e4, e5, e6, e7, e8, e9⟩ := idx t
  exact ⟨funext fun j => by blk_ext [iblk1, e0],
    funext fun j => by blk_ext [iblk1, e1],
    funext fun j => by blk_ext [iblk1, e2],
    funext fun j => by blk_ext [iblk1, e3],
    funext fun j => by blk_ext [iblk1, e4],
    funext fun j => by blk_ext [iblk1, e5],
    funext fun j => by blk_ext [iblk1, e6],
    funext fun j => by blk_ext [iblk1, e7],
    funext fun j => by blk_ext [iblk1, e8],
    funext fun j => by blk_ext [iblk1, e9]⟩

/-- The scores of all spans against the spans of image `v`. -/
def scoresOf (c : Dev nD) (v : Fin 8) : FVec Ideal S128x16 .f32 := fun y =>
  score (V c main_v11_1) (V c main_v11_0) (V c main_v11_5) (V c main_v12) (V c main_arg17) (V c main_v11_2) (V c main_v11_3) (V c main_v8)
    (V c main_v9) (V c main_v10) (y 0) ⟨16 * (v : ℕ) + (y 1).val, by have h : (y 1).val < 16 := (y 1).isLt; omega⟩

/-- The second launch's output: the best averages of every image's scores. -/
theorem best_array (c : Dev nD) : (dat1 V c).arrAt 10 cfg1.N
    = fun y : S8x16x128.Idx => k1_pay3 (F := Ideal) (scoresOf V c (y 0)) (ix3 0 (y 1) (y 2)) := by
  have idx : ∀ t : Fin cfg1.N, win1_10.index t = ![t.val, 0, 0] ∧ (grid1.coords t 0).val = t.val :=
    (by decide +kernel : ∀ t : Fin grid1.N, _)
  refine (dat1 V c).arrAt_eq_of_covers 10 _ (by decide +kernel) fun t _ y => ?_
  obtain ⟨e0, e1, e2, e3, e4, e5, e6, e7, e8, e9⟩ := blocks1 V c t
  obtain ⟨r, q, rfl⟩ : ∃ (r : Fin 16) (q : Fin 128), y = (ix3 0 r q : S1x16x128.Idx) :=
    ⟨y 1, y 2, funext fun a => by
      fin_cases a
      · exact Fin.ext (Nat.lt_one_iff.mp (y 0).isLt)
      · rfl
      · rfl⟩
  have place : ((cfg1.win 10).blk t).view.emb (ix3 0 r q : S1x16x128.Idx) = (ix3 ⟨t.val, t.isLt⟩ r q : S8x16x128.Idx) := by
    blk_ext [(idx t).1]
  blk_simp
  rw [after1_10]
  unfold outsAt1
  frame_out
  rw [e0, e1, e2, e3, e4, e5, e6, e7, e8, e9]
  refine Eq.trans ?_ (congrArg (fun y : S8x16x128.Idx => k1_pay3 (F := Ideal) (scoresOf V c (y 0)) (ix3 0 (y 1) (y 2))) place.symm)
  refine congrFun (congrArg (k1_pay3 (F := Ideal)) (funext fun z => ?_)) _
  idx_vars z
  refine (carried_at c (grid1.coords t) _ _ _ _ _ _ _ _ _ _ _ _ _ _ _ _ _ _ _ _ _ _ _ _ _ _ _ _ _ _ _ _ _ 16 le_rfl z0 z1).trans ?_
  rw [if_pos z1.isLt]
  exact congrArg _ (Fin.ext (congrArg (fun n => 16 * n + (z1 : ℕ)) (idx t).2))

end Cert.KernelIdeal.Run

end
-- ==== Proof.Val2.lean ====
module

public import proofs.«01_k».proof.Proof.KI.Whole
public import proofs.«01_k».proof.Proof.PureD
public import Idealize.ShloMosaic.Lib.Pipeline.ValueKit
public import Idealize.ShloMosaic.Lib.Pointwise

/-! What the third launch leaves in its output array, as a function of the arrays it finds. -/

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The loss, over the grounding table and the table of best averages. -/
theorem loss_array (c : Dev nD) : (dat2 V c).arrAt 2 cfg2.N
    = k2_pay1 (F := Ideal) (k2_pay4 (V c main_v13) (V c main_v11_4)) (k2_pay5 (V c main_v13) (V c main_v11_4)) := by
  have idx : (∀ a, win2_0.index t2_0 a = 0) ∧ (∀ a, win2_1.index t2_0 a = 0) := by decide +kernel
  have e0 : iblk2 V c 0 t2_0 = V c main_v11_4 := funext fun j => by blk_ext [iblk2, idx.1]
  have e1 : iblk2 V c 1 t2_0 = V c main_v13 := funext fun j => by blk_ext [iblk2, idx.2]
  refine (dat2 V c).arrAt_eq_of_after_last 2 t2_0 (by decide +kernel) _ fun j => ?_
  blk_simp
  rw [after2_2]
  frame_out
  rw [e0, e1]

end Cert.KernelIdeal.Run

end
-- ==== Proof.Chain.lean ====
module

public import proofs.«01_k».proof.Proof.Entry
public import proofs.«01_k».proof.Proof.Agree
public import proofs.«01_k».proof.Proof.Val0
public import proofs.«01_k».proof.Proof.Val1
public import proofs.«01_k».proof.Proof.Val2
public import proofs.«01_k».proof.Proof.Rows

/-! The kernel's result from its arguments: through the three launches, it is the loss of the problem. -/

@[expose] public section

set_option maxRecDepth 16384

noncomputable section

namespace Cert.KernelIdeal.Run

open Idealize.ShloMosaic Idealize.ShloMosaic.TcCoe Idealize.SL.Sem
open Cert.KernelIdeal Cert.KernelIdeal.Gen Cert.KernelIdeal.Pure
open Cert.Spec

/-- One span's embedding from the arguments before documents and spans share an axis. -/
theorem spans_flat (e : FVec Ideal S8x16x1536 .f32) (t : FVec Ideal S8x16x10x768 .f32) (w : IVec S8x16 32) (w1 : FVec Ideal S768x1024 .f32)
    (b1 : FVec Ideal S1024 .f32) (w2 : FVec Ideal S1024x1 .f32) (b2 : FVec Ideal S1 .f32) (we : FVec Ideal S5x20 .f32)
    (he ht hw hb1 hb2) (s : Fin 8) (i : Fin 16) (d : Fin 2324) (hpos : 0 ≤ (w (ix2 s i)).toInt) :
    spans (shapeCast S128x1536 e he) (shapeCast S128x10x768 t ht) (shapeCast S128x1 (sitofp (F := Ideal) .f32 w) hw) w1
      (shapeCast S1x1024 b1 hb1) w2 (shapeCast S1x1 b2 hb2) we (ix2 ⟨(s : ℕ) * 16 + i, by omega⟩ d)
      = span (fun d => e (ix3 s i d)) (fun t' d => t (ix4 s i t' d)) (w (ix2 s i)) (fun d h => w1 (ix2 d h))
        (fun h => b1 (ix1 h)) (fun h => w2 (ix2 h 0)) (b2 (ix1 0)) (fun r d => we (ix2 r d)) d := by
  refine (spans_at _ _ _ _ _ _ _ _ _ d (w (ix2 s i)) (flat_widths _ _ s i) hpos).trans ?_
  simp only [flat_ends, flat_tokens, flat_bias, flat_one]

/-- One grounding score from the features before documents and frames share an axis. -/
theorem grounds_flat (d : FVec Ideal S8x64x1024 .f32) (i : FVec Ideal S8x36x1024 .f32) (hd hi) (s v : Fin 8) :
    grounds (shapeCast S512x1024 d hd) (shapeCast S288x1024 i hi) (ix2 s v)
      = ground (att (fun f k => d (ix3 s f k)) (fun r k => i (ix3 v r k))) := by
  refine (grounds_at _ _ s v).trans ?_
  simp only [flat_doc, flat_img]

/-- One pair score from the span table and the arguments. -/
theorem score_flat (x : FVec Ideal S128x2324 .f32) (w1 : FVec Ideal S6972x1024 .f32) (w2 : FVec Ideal S1024x1024 .f32)
    (w3 : FVec Ideal S1024x1 .f32) (b1 b2 : FVec Ideal S1024 .f32) (b3 : FVec Ideal S1 .f32) (i0 i1 i2 hw h1 h2 h3) (p q : Fin 128)
    (a b : Fin 2324 → EReal) (ha : ∀ d, x (ix2 p d) = a d) (hb : ∀ d, x (ix2 q d) = b d) :
    score x x (k0_pay1 (F := Ideal) (View.ld (Val := Elt Ideal) (e' := .f32) w1 (Rect.unit (s := S6972x1024) ![4648, 0] ![2324, 1024] i2)))
      (truncf (F := Ideal) .bf16 w2 hw) w3
      (k0_pay46 (F := Ideal) x (View.ld (Val := Elt Ideal) (e' := .f32) w1 (Rect.unit (s := S6972x1024) ![0, 0] ![2324, 1024] i0)))
      (k0_pay47 (F := Ideal) x (View.ld (Val := Elt Ideal) (e' := .f32) w1 (Rect.unit (s := S6972x1024) ![2320, 0] ![2328, 1024] i1)))
      (shapeCast S1x1024 b1 h1) (shapeCast S1x1024 b2 h2) (shapeCast S1x1 b3 h3) p q
      = pair a b (fun d h => w1 (ix2 d h)) (fun h => b1 (ix1 h)) (fun h k => w2 (ix2 h k)) (fun k => b2 (ix1 k))
        (fun k => w3 (ix2 k 0)) (b3 (ix1 0)) := by
  obtain rfl : (fun d => x (ix2 p d)) = a := funext ha
  obtain rfl : (fun d => x (ix2 q d)) = b := funext hb
  refine (score_pair _ _ _ _ _ _ _ _ _ _ _ _).trans ?_
  simp only [flat_bias, flat_one]
  rfl

variable (m : (ℓ : Loc nD τ sig) → Buf (Elt Ideal) ℓ) (ρ : Dev nD → PrngReg) (c : Dev nD)

/-- The document features. -/
abbrev doc : FVec Ideal S8x64x1024 .f32 := m ((c : Thread nD τ).loc main_arg0)
/-- The image features. -/
abbrev img : FVec Ideal S8x36x1024 .f32 := m ((c : Thread nD τ).loc main_arg1)
/-- The spans' start and end features. -/
abbrev ends : FVec Ideal S8x16x1536 .f32 := m ((c : Thread nD τ).loc main_arg4)
/-- The spans' token features. -/
abbrev tokens : FVec Ideal S8x16x10x768 .f32 := m ((c : Thread nD τ).loc main_arg5)
/-- The spans' widths. -/
abbrev width : IVec S8x16 32 := m ((c : Thread nD τ).loc main_arg6)
/-- The token scores' first weights. -/
abbrev aw1 : FVec Ideal S768x1024 .f32 := m ((c : Thread nD τ).loc main_arg8)
/-- The token scores' first bias. -/
abbrev ab1 : FVec Ideal S1024 .f32 := m ((c : Thread nD τ).loc main_arg9)
/-- The token scores' second weights. -/
abbrev aw2 : FVec Ideal S1024x1 .f32 := m ((c : Thread nD τ).loc main_arg10)
/-- The token scores' second bias. -/
abbrev ab2 : FVec Ideal S1 .f32 := m ((c : Thread nD τ).loc main_arg11)
/-- The width table. -/
abbrev wtable : FVec Ideal S5x20 .f32 := m ((c : Thread nD τ).loc main_arg12)
/-- The pair scores' first weights. -/
abbrev pw1 : FVec Ideal S6972x1024 .f32 := m ((c : Thread nD τ).loc main_arg13)
/-- The pair scores' first bias. -/
abbrev pb1 : FVec Ideal S1024 .f32 := m ((c : Thread nD τ).loc main_arg14)
/-- The pair scores' second weights. -/
abbrev pw2 : FVec Ideal S1024x1024 .f32 := m ((c : Thread nD τ).loc main_arg15)
/-- The pair scores' second bias. -/
abbrev pb2 : FVec Ideal S1024 .f32 := m ((c : Thread nD τ).loc main_arg16)
/-- The pair scores' last weights. -/
abbrev pw3 : FVec Ideal S1024x1 .f32 := m ((c : Thread nD τ).loc main_arg17)
/-- The pair scores' last bias. -/
abbrev pb3 : FVec Ideal S1 .f32 := m ((c : Thread nD τ).loc main_arg18)

/-- One span's embedding from the arguments. -/
abbrev spanOf (s : Fin 8) (i : Fin 16) : Fin 2324 → EReal :=
  span (fun d => ends m c (ix3 s i d)) (fun t d => tokens m c (ix4 s i t d)) (width m c (ix2 s i)) (fun d h => aw1 m c (ix2 d h))
    (fun h => ab1 m c (ix1 h)) (fun h => aw2 m c (ix2 h 0)) (ab2 m c (ix1 0)) (fun r d => wtable m c (ix2 r d))

/-- The span table of the first launch. -/
theorem spansOf_at (hw : ∀ j, 0 ≤ (width m c j).toInt) (s : Fin 8) (i : Fin 16) (d : Fin 2324) :
    spansOf (V1 m ρ) c (ix2 ⟨(s : ℕ) * 16 + i, by omega⟩ d) = spanOf m c s i d := by
  have a8 : V1 m ρ c main_arg8 = aw1 m c := W1_args m ρ c main_arg8 (by decide)
  have a10 : V1 m ρ c main_arg10 = aw2 m c := W1_args m ρ c main_arg10 (by decide)
  have a12 : V1 m ρ c main_arg12 = wtable m c := W1_args m ρ c main_arg12 (by decide)
  unfold spansOf
  rw [entry_ends, entry_tokens, entry_widths, a8, entry_ab1, a10, entry_ab2, a12]
  exact spans_flat (ends m c) (tokens m c) (width m c) (aw1 m c) (ab1 m c) (aw2 m c) (ab2 m c) (wtable m c) _ _ _ _ _ s i d (hw _)

/-- What the second launch finds in the first launch's outputs and the reshaped biases. -/
theorem found : V3 m ρ c main_v11_0 = spansOf (V1 m ρ) c ∧ V3 m ρ c main_v11_1 = spansOf (V1 m ρ) c
    ∧ V3 m ρ c main_v11_2 = k0_pay46 (F := Ideal) (spansOf (V1 m ρ) c) (View.ld (Val := Elt Ideal) (e' := .f32) (pw1 m c) (Rect.unit (s := S6972x1024) ![0, 0] ![2324, 1024] inb_S6972x1024_S2324x1024_0_0))
    ∧ V3 m ρ c main_v11_3 = k0_pay47 (F := Ideal) (spansOf (V1 m ρ) c) (View.ld (Val := Elt Ideal) (e' := .f32) (pw1 m c) (Rect.unit (s := S6972x1024) ![2320, 0] ![2328, 1024] inb_S6972x1024_S2328x1024_2320_0))
    ∧ V3 m ρ c main_v11_5 = k0_pay1 (F := Ideal) (View.ld (Val := Elt Ideal) (e' := .f32) (pw1 m c) (Rect.unit (s := S6972x1024) ![4648, 0] ![2324, 1024] inb_S6972x1024_S2324x1024_4648_0))
    ∧ V3 m ρ c main_v8 = V1 m ρ c main_v8 ∧ V3 m ρ c main_v9 = V1 m ρ c main_v9 ∧ V3 m ρ c main_v10 = V1 m ρ c main_v10 := by
  have a13 : V1 m ρ c main_arg13 = pw1 m c := W1_args m ρ c main_arg13 (by decide)
  refine ⟨?_, ?_, ?_, ?_, ?_, ?_, ?_, ?_⟩
  · exact (W3_of m ρ c main_v11_0 (by decide)).trans ((W2_arr m ρ c 10).trans (out10 (V1 m ρ) c))
  · exact (W3_of m ρ c main_v11_1 (by decide)).trans ((W2_arr m ρ c 11).trans (out11 (V1 m ρ) c))
  · exact (W3_of m ρ c main_v11_2 (by decide)).trans ((W2_arr m ρ c 12).trans ((out12 (V1 m ρ) c).trans (by rw [a13]; rfl)))
  · exact (W3_of m ρ c main_v11_3 (by decide)).trans ((W2_arr m ρ c 13).trans ((out13 (V1 m ρ) c).trans (by rw [a13]; rfl)))
  · exact (W3_of m ρ c main_v11_5 (by decide)).trans ((W2_arr m ρ c 15).trans ((out15 (V1 m ρ) c).trans (by rw [a13]; rfl)))
  · exact (W3_of m ρ c main_v8 (by decide)).trans (W2_of m ρ c main_v8 (by decide +kernel))
  · exact (W3_of m ρ c main_v9 (by decide)).trans (W2_of m ρ c main_v9 (by decide +kernel))
  · exact (W3_of m ρ c main_v10 (by decide)).trans (W2_of m ρ c main_v10 (by decide +kernel))

/-- The scores the second launch computes. -/
theorem scoresOf_at (hw : ∀ j, 0 ≤ (width m c j).toInt) (s v : Fin 8) (i j : Fin 16) :
    scoresOf (V3 m ρ) c v (ix2 ⟨(s : ℕ) * 16 + i, by omega⟩ j)
      = pair (spanOf m c s i) (spanOf m c v j) (fun d h => pw1 m c (ix2 d h)) (fun h => pb1 m c (ix1 h)) (fun h k => pw2 m c (ix2 h k))
        (fun h => pb2 m c (ix1 h)) (fun k => pw3 m c (ix2 k 0)) (pb3 m c (ix1 0)) := by
  obtain ⟨f0, f1, f2, f3, f5, f8, f9, f10⟩ := found m ρ c
  have a17 : V3 m ρ c main_arg17 = pw3 m c := W3_args m ρ c main_arg17 (by decide)
  have a15 : W2 m ρ c (Proc.tc.devRef main_arg15) = pw2 m c := W2_args m ρ c main_arg15 (by decide)
  unfold scoresOf
  rw [f0, f1, f2, f3, f5, f8, f9, f10, a17, entry_w2, a15, entry_b1, entry_b2, entry_b3]
  have e : (⟨16 * (v : ℕ) + (j : ℕ), by omega⟩ : Fin 128) = ⟨(v : ℕ) * 16 + j, by omega⟩ := Fin.ext (by dsimp only; omega)
  exact score_flat (spansOf (V1 m ρ) c) (pw1 m c) (pw2 m c) (pw3 m c) (pb1 m c) (pb2 m c) (pb3 m c) _ _ _ _ _ _ _
    ⟨(s : ℕ) * 16 + i, by omega⟩ ⟨16 * (v : ℕ) + (j : ℕ), by omega⟩ _ _ (spansOf_at m ρ c hw s i)
    (fun d => (congrArg (fun q => spansOf (V1 m ρ) c (ix2 q d)) e).trans (spansOf_at m ρ c hw v j d))

/-- The grounding table the last launch finds. -/
theorem ground_at_last (s v : Fin 8) : (V4 m ρ c main_v11_4 : FVec Ideal S8x8 .f32) (ix2 s v)
    = ground (att (fun f k => doc m c (ix3 s f k)) (fun r k => img m c (ix3 v r k))) := by
  have e : V4 m ρ c main_v11_4 = grounds (V1 m ρ c main_v4) (V1 m ρ c main_v5) :=
    (W4_of m ρ c main_v11_4 (by decide +kernel)).trans
      ((W3_of m ρ c main_v11_4 (by decide)).trans ((W2_arr m ρ c 14).trans (out14 (V1 m ρ) c)))
  rw [e, entry_doc, entry_img]
  exact grounds_flat (doc m c) (img m c) _ _ s v

/-- The agreement table the last launch computes from the second launch's output. -/
theorem agree_at_last (hw : ∀ j, 0 ≤ (width m c j).toInt) (s v : Fin 8) : half (V4 m ρ c main_v13) s v
    = agree fun i j => pair (spanOf m c s i) (spanOf m c v j) (fun d h => pw1 m c (ix2 d h)) (fun h => pb1 m c (ix1 h))
        (fun h k => pw2 m c (ix2 h k)) (fun h => pb2 m c (ix1 h)) (fun k => pw3 m c (ix2 k 0)) (pb3 m c (ix1 0)) := by
  have e : V4 m ρ c main_v13 = fun y : S8x16x128.Idx => k1_pay3 (F := Ideal) (scoresOf (V3 m ρ) c (y 0)) (ix3 0 (y 1) (y 2)) :=
    (W4_arr m ρ c 10).trans (best_array (V3 m ρ) c)
  rw [e]
  refine (half_at (scoresOf (V3 m ρ) c) s v).trans ?_
  exact congrArg agree (funext fun i => funext fun j => scoresOf_at m ρ c hw s v i j)

/-- The kernel's result, from its arguments: with widths that aren't negative it is the loss of the problem. -/
theorem answer_at (hw : ∀ j, 0 ≤ (width m c j).toInt) : (W6 m ρ c (Proc.tc.devRef main_v15) : FVec Ideal S_ .f32) ix0
    = answer (fun s f k => doc m c (ix3 s f k)) (fun v r k => img m c (ix3 v r k)) (fun s i d => ends m c (ix3 s i d))
        (fun s i t d => tokens m c (ix4 s i t d)) (fun s i => width m c (ix2 s i)) (fun d h => aw1 m c (ix2 d h))
        (fun h => ab1 m c (ix1 h)) (fun h => aw2 m c (ix2 h 0)) (ab2 m c (ix1 0)) (fun r d => wtable m c (ix2 r d))
        (fun d h => pw1 m c (ix2 d h)) (fun h => pb1 m c (ix1 h)) (fun h k => pw2 m c (ix2 h k)) (fun h => pb2 m c (ix1 h))
        (fun k => pw3 m c (ix2 k 0)) (pb3 m c (ix1 0)) := by
  have e : W5 m ρ c (Proc.tc.devRef main_v14) = k2_pay1 (F := Ideal) (k2_pay4 (V4 m ρ c main_v13) (V4 m ρ c main_v11_4))
      (k2_pay5 (V4 m ρ c main_v13) (V4 m ρ c main_v11_4)) := (W5_arr m ρ c 2).trans (loss_array (V4 m ρ) c)
  have one : ∀ x : FVec Ideal S1x1 .f32, shapeCast S_ x shapeCasts_S1x1_S_ ix0 = x (ix2 0 0) := fun x => by
    refine shapeCast_apply x _ _ _ ?_
    simp only [Shape.rowMajor_val_two]
    rfl
  have hg := ground_at_last m ρ c
  have ha : ∀ s, half (V4 m ρ c main_v13) s = _ := fun s => funext fun v => agree_at_last m ρ c hw s v
  rw [exit_loss, e, one]
  obtain ⟨b, hb⟩ : ∃ b : FVec Ideal S8x16x128 .f32, V4 m ρ c main_v13 = b := ⟨_, rfl⟩
  obtain ⟨g, hg'⟩ : ∃ g : FVec Ideal S8x8 .f32, V4 m ρ c main_v11_4 = g := ⟨_, rfl⟩
  rw [hb] at ha ⊢
  rw [hg'] at hg ⊢
  rw [total_at]
  simp only [log1_at, sum2_at, hg, ha, eight_f32, zero_sub]
  rfl

end Cert.KernelIdeal.Run

end
-- ==== Proof.RefA.lean ====
module

public import proofs.«01_k».proof.Proof.Gen.ReferenceIdeal.Run
public import proofs.«01_k».proof.Proof.Spec
public import Idealize.ShloMosaic.Lib.Pointwise
public import Idealize.ShloMosaic.Lib.IdealHost

/-! The reference's arguments by name, and its span embeddings read at one entry. -/

@[expose] public section

set_option maxRecDepth 16384

noncomputable section

namespace Cert.ReferenceIdeal.Pure

open Idealize.ShloMosaic Idealize.ShloMosaic.StableHlo
open Cert.ReferenceIdeal Cert.ReferenceIdeal.Gen Cert.ReferenceIdeal.Value
open Cert.Spec

variable (V0 : Valuation τ sig (Elt Ideal))

/-- The document features. -/
abbrev doc : FVec Ideal S8x64x1024 .f32 := V0 (Proc.devRef .tc main_arg0)
/-- The image features. -/
abbrev img : FVec Ideal S8x36x1024 .f32 := V0 (Proc.devRef .tc main_arg1)
/-- The text mask. -/
abbrev tmask : FVec Ideal S8x64 .f32 := V0 (Proc.devRef .tc main_arg2)
/-- The image mask. -/
abbrev imask : FVec Ideal S8x36 .f32 := V0 (Proc.devRef .tc main_arg3)
/-- The start and end features. -/
abbrev ends : FVec Ideal S8x16x1536 .f32 := V0 (Proc.devRef .tc main_arg4)
/-- The token features. -/
abbrev tokens : FVec Ideal S8x16x10x768 .f32 := V0 (Proc.devRef .tc main_arg5)
/-- The span widths. -/
abbrev width : IVec S8x16 32 := V0 (Proc.devRef .tc main_arg6)
/-- The span mask. -/
abbrev smask : FVec Ideal S8x16 .f32 := V0 (Proc.devRef .tc main_arg7)
/-- The attention's first weights. -/
abbrev aw1 : FVec Ideal S768x1024 .f32 := V0 (Proc.devRef .tc main_arg8)
/-- The attention's first bias. -/
abbrev ab1 : FVec Ideal S1024 .f32 := V0 (Proc.devRef .tc main_arg9)
/-- The attention's second weights. -/
abbrev aw2 : FVec Ideal S1024x1 .f32 := V0 (Proc.devRef .tc main_arg10)
/-- The attention's second bias. -/
abbrev ab2 : FVec Ideal S1 .f32 := V0 (Proc.devRef .tc main_arg11)
/-- The width table. -/
abbrev wtable : FVec Ideal S5x20 .f32 := V0 (Proc.devRef .tc main_arg12)
/-- The pair layer's first weights. -/
abbrev pw1 : FVec Ideal S6972x1024 .f32 := V0 (Proc.devRef .tc main_arg13)
/-- The pair layer's first bias. -/
abbrev pb1 : FVec Ideal S1024 .f32 := V0 (Proc.devRef .tc main_arg14)
/-- The pair layer's second weights. -/
abbrev pw2 : FVec Ideal S1024x1024 .f32 := V0 (Proc.devRef .tc main_arg15)
/-- The pair layer's second bias. -/
abbrev pb2 : FVec Ideal S1024 .f32 := V0 (Proc.devRef .tc main_arg16)
/-- The pair layer's third weights. -/
abbrev pw3 : FVec Ideal S1024x1 .f32 := V0 (Proc.devRef .tc main_arg17)
/-- The pair layer's third bias. -/
abbrev pb3 : FVec Ideal S1 .f32 := V0 (Proc.devRef .tc main_arg18)

/-- A token's position as a 32-bit word, read back. -/
theorem toInt_small (t : Fin 10) : (BitVec.ofNat 32 (t : ℕ)).toInt = (t : ℤ) := by revert t; decide

/-- The masked attention score of a token. -/
theorem masked_at (s : Fin 8) (i : Fin 16) (t : Fin 10) :
    (res_main_v17 V0 : FVec Ideal S8x16x10x1 .f32) (ix4 s i t 0)
      = maskedScore (width V0 (ix2 s i)) (fun t => tokScore (fun d => tokens V0 (ix4 s i t d)) (fun d h => aw1 V0 (ix2 d h))
        (fun h => ab1 V0 (ix1 h)) (fun h => aw2 V0 (ix2 h 0)) (ab2 V0 (ix1 0))) t := by
  unfold maskedScore tokScore
  pointwise [res_main_v17]
  rw [show IntOp.cmpi .slt (BitVec.ofNat 32 (t : ℕ)) (width V0 (ix2 s i))
      = BitVec.ofBool (decide ((BitVec.ofNat 32 (t : ℕ)).toInt < (width V0 (ix2 s i)).toInt)) from rfl, toInt_small t]
  by_cases h : (t : ℤ) < (width V0 (ix2 s i)).toInt
  · rw [if_pos h, decide_eq_true h]; rfl
  · rw [if_neg h, decide_eq_false h]; rfl

/-- The greatest entry of a row is not below the pattern of minus infinity it starts from. -/
theorem max_rowMax {n : Nat} (f : Fin n → EReal) : max (Ideal.ofBits .f32 0xFF800000#32) (rowMax f) = rowMax f :=
  max_eq_right (Finset.le_fold_max _ |>.2 (Or.inl le_rfl))

/-- The row of the width table one span reads. -/
theorem gather_at (x : FVec Ideal S5x20 .f32) (k : IVec S8x16x1 32) (s : Fin 8) (i : Fin 16) (e : Fin 20) :
    Host.gather gather_S5x20_S8x16x1_S8x16x20_2_0_n_n_0_2_120 x k (ix3 s i e)
      = x (ix2 ⟨min (k (ix3 s i 0)).toInt.toNat 4, by omega⟩ e) := by
  unfold Host.gather
  refine congrArg x (funext fun a => Fin.ext ?_)
  show GatherDims.start _ _ _ a + GatherDims.batchCoord _ _ a + GatherDims.offCoord _ _ a = _
  have two : a = 0 ∨ a = 1 := by revert a; decide
  rw [GatherDims.batchCoord_eq_zero _ _ _ List.not_mem_nil]
  rcases two with rfl | rfl
  · rw [GatherDims.offCoord_eq_zero _ _ _ fun h => ((GatherDims.mem_sKept _ _).mp h).1 (List.mem_singleton.mpr rfl)]
    have here : (0 : Fin S5x20.rank) ∈ gather_S5x20_S8x16x1_S8x16x20_2_0_n_n_0_2_120.startIndexMap := List.mem_singleton.mpr rfl
    unfold GatherDims.start
    rw [dif_pos here]
    have at0 : ∀ c, GatherDims.siIdx gather_S5x20_S8x16x1_S8x16x20_2_0_n_n_0_2_120 (ix3 s i e) c = ix3 s i 0 := fun c => by
      funext b
      refine Fin.ext ?_
      match b with
      | ⟨0, _⟩ => rfl
      | ⟨1, _⟩ => rfl
      | ⟨2, _⟩ => exact Nat.lt_one_iff.mp c.isLt
    rw [at0]
    rfl
  · have far : (1 : Fin S5x20.rank) ∉ gather_S5x20_S8x16x1_S8x16x20_2_0_n_n_0_2_120.startIndexMap := by decide
    have kept : (1 : Fin S5x20.rank) ∈ gather_S5x20_S8x16x1_S8x16x20_2_0_n_n_0_2_120.sKept := by decide
    unfold GatherDims.start GatherDims.offCoord
    rw [dif_neg far, dif_pos kept]
    exact (Nat.zero_add _).trans rfl

/-- A width cut to the range zero to four, wrapped as an index below zero would be, read as a row. -/
theorem row_word (x : BitVec 32) :
    min (Scalar.select (IntOp.cmpi .slt (IntOp.minsi 4#32 (IntOp.maxsi 0#32 x)) 0#32)
      (IntOp.addi (IntOp.minsi 4#32 (IntOp.maxsi 0#32 x)) 5#32) (IntOp.minsi 4#32 (IntOp.maxsi 0#32 x))).toInt.toNat 4
      = min x.toInt.toNat 4 := by
  have h0 : (0#32 : BitVec 32).toInt = 0 := by decide
  have h4 : (4#32 : BitVec 32).toInt = 4 := by decide
  have hc : (IntOp.minsi 4#32 (IntOp.maxsi 0#32 x)).toInt = min 4 (max 0 x.toInt) := by
    unfold IntOp.minsi IntOp.maxsi
    split <;> split <;> simp only [BitVec.slt_iff_toInt_lt, h0, h4] at * <;> omega
  generalize IntOp.minsi 4#32 (IntOp.maxsi 0#32 x) = c at hc ⊢
  have hn : IntOp.cmpi .slt c 0#32 = 0#1 := by
    show BitVec.ofBool (decide (c.toInt < (0#32 : BitVec 32).toInt)) = 0#1
    rw [decide_eq_false (by omega)]
    rfl
  rw [hn]
  show min c.toInt.toNat 4 = _
  omega

/-- A table of words with an axis added, read at one entry. -/
theorem column_at (k : IVec S8x16 32) (s : Fin 8) (i : Fin 16) :
    broadcastInDim S8x16x1 ![0, 1] bcast_S8x16_S8x16x1_0_1 k (ix3 s i 0) = k (ix2 s i) := by
  pointwise

/-- The row a table of words names for one span. -/
theorem lookup_at (x : FVec Ideal S5x20 .f32) (k : IVec S8x16 32) (s : Fin 8) (i : Fin 16) (e : Fin 20) :
    Host.gather gather_S5x20_S8x16x1_S8x16x20_2_0_n_n_0_2_120 x (broadcastInDim S8x16x1 ![0, 1] bcast_S8x16_S8x16x1_0_1 k) (ix3 s i e)
      = x (ix2 ⟨min (k (ix2 s i)).toInt.toNat 4, by omega⟩ e) :=
  (gather_at _ _ s i e).trans (congrArg (fun w : BitVec 32 => x (ix2 ⟨min w.toInt.toNat 4, by omega⟩ e)) (column_at k s i))

/-- The width features of one span. -/
theorem features_at (s : Fin 8) (i : Fin 16) (e : Fin 20) :
    Host.gather gather_S5x20_S8x16x1_S8x16x20_2_0_n_n_0_2_120 (wtable V0) (broadcastInDim S8x16x1 ![0, 1] bcast_S8x16_S8x16x1_0_1
      (select (cmpi .slt (res_main_v32 V0) (broadcastInDim S8x16 ![] bcast_S_S8x16 (constantI S_ 32 0#32)))
        (addi (res_main_v32 V0) (broadcastInDim S8x16 ![] bcast_S_S8x16 (constantI S_ 32 5#32))) (res_main_v32 V0))) (ix3 s i e)
      = wtable V0 (ix2 (widthRow (width V0 (ix2 s i))) e) := by
  have h : min (select (cmpi .slt (res_main_v32 V0) (broadcastInDim S8x16 ![] bcast_S_S8x16 (constantI S_ 32 0#32)))
      (addi (res_main_v32 V0) (broadcastInDim S8x16 ![] bcast_S_S8x16 (constantI S_ 32 5#32))) (res_main_v32 V0)
        (ix2 s i)).toInt.toNat 4 = min (width V0 (ix2 s i)).toInt.toNat 4 := by
    refine Eq.trans ?_ (row_word _)
    pointwise [res_main_v32]
    rfl
  refine (lookup_at _ _ s i e).trans ?_
  unfold widthRow
  exact congrArg (fun r => wtable V0 (ix2 r e)) (Fin.ext h)

/-- Three arrays side by side, read at one entry. -/
theorem side_at (x : FVec Ideal S8x16x1536 .f32) (y : FVec Ideal S8x16x768 .f32) (z : FVec Ideal S8x16x20 .f32)
    (s : Fin 8) (i : Fin 16) (d : Fin 2324) :
    concatenate S8x16x2324 2 [⟨S8x16x1536, x⟩, ⟨S8x16x768, y⟩, ⟨S8x16x20, z⟩]
        concatenates_S8x16x1536_S8x16x768_S8x16x20_S8x16x2324_d2 (ix3 s i d)
      = if h : (d : ℕ) < 1536 then x (ix3 s i ⟨d, h⟩)
        else if h' : (d : ℕ) - 1536 < 768 then y (ix3 s i ⟨(d : ℕ) - 1536, h'⟩)
        else z (ix3 s i ⟨(d : ℕ) - 1536 - 768, by omega⟩) := by
  pointwise

/-- The attended features of one span, from its masked scores. -/
theorem attended_at (s : Fin 8) (i : Fin 16) (d : Fin 768) :
    Host.reduceAdd (F := Ideal) (φ := .f32) (mulf (broadcastInDim S8x16x10x768 ![0, 1, 2, 3] bcast_S8x16x10x1_S8x16x10x768_0_1_2_3
        (Host.divf (res_main_v24 V0) (broadcastInDim S8x16x10x1 ![0, 1, 2, 3] bcast_S8x16x1x1_S8x16x10x1_0_1_2_3
          (broadcastInDim S8x16x1x1 ![0, 1, 3] bcast_S8x16x1_S8x16x1x1_0_1_3
            (Host.reduceAdd (res_main_v24 V0) (constant S_ .f32 0x00000000#32) reducesTo_S8x16x10x1_S8x16x1_d2 h_S_))))) (tokens V0))
      (constant S_ .f32 0x00000000#32) reducesTo_S8x16x10x768_S8x16x768_d2 h_S_ (ix3 s i d)
      = ∑ t, soft (fun t => (res_main_v17 V0 : FVec Ideal S8x16x10x1 .f32) (ix4 s i t 0)) t * tokens V0 (ix4 s i t d) := by
  unfold res_main_v24 soft
  obtain ⟨z, hz⟩ : ∃ z : FVec Ideal S8x16x10x1 .f32, res_main_v17 V0 = z := ⟨_, rfl⟩
  rw [hz]
  have hm : maximumf (broadcastInDim S8x16x1 ![] bcast_S_S8x16x1 (constant (F := Ideal) S_ .f32 0xFF800000#32))
      (Host.reduce (FloatOps.maximumf (F := Ideal) (φ := .f32)) z (constant S_ .f32 0xFF800000#32) reducesTo_S8x16x10x1_S8x16x1_d2 h_S_) (ix3 s i 0)
        = rowMax fun t => z (ix4 s i t 0) := by
    refine Eq.trans ?_ (max_rowMax _)
    unfold rowMax
    pointwise
  generalize maximumf (F := Ideal) (φ := .f32) _ _ = top at hm ⊢
  pointwise
  simp only [hm]

/-- The embedding of one span. -/
theorem span_at (s : Fin 8) (i : Fin 16) (d : Fin 2324) :
    (res_main_v40 V0 : FVec Ideal S8x16x2324 .f32) (ix3 s i d)
      = span (fun d => ends V0 (ix3 s i d)) (fun t d => tokens V0 (ix4 s i t d)) (width V0 (ix2 s i)) (fun d h => aw1 V0 (ix2 d h))
        (fun h => ab1 V0 (ix1 h)) (fun h => aw2 V0 (ix2 h 0)) (ab2 V0 (ix1 0)) (fun r d => wtable V0 (ix2 r d)) d := by
  refine (side_at _ _ _ s i d).trans ?_
  unfold span
  by_cases h : (d : ℕ) < 1536
  · rw [dif_pos h, dif_pos h]
  by_cases h' : (d : ℕ) - 1536 < 768
  · rw [dif_neg h, dif_neg h, dif_pos h', dif_pos h']
    refine (attended_at V0 s i _).trans ?_
    simp only [masked_at]
  rw [dif_neg h, dif_neg h, dif_neg h', dif_neg h']
  exact features_at V0 s i _

end Cert.ReferenceIdeal.Pure

end
-- ==== Proof.RefB.lean ====
module

public import proofs.«01_k».proof.Proof.RefA
public import Idealize.ShloMosaic.Lib.Pointwise
public import Idealize.ShloMosaic.Lib.IdealHost

/-! The reference's grounding table read at one entry. -/

@[expose] public section

set_option maxRecDepth 16384

noncomputable section

namespace Cert.ReferenceIdeal.Pure

open Idealize.ShloMosaic Idealize.ShloMosaic.StableHlo
open Cert.ReferenceIdeal Cert.ReferenceIdeal.Gen Cert.ReferenceIdeal.Value
open Cert.Spec

variable (V0 : Valuation τ sig (Elt Ideal))

/-- The product of the masks is one when both masks are. -/
theorem mask_at (ht : ∀ j, tmask V0 j = 1) (hi : ∀ j, imask V0 j = 1) (s v : Fin 8) (f : Fin 64) (r : Fin 36) :
    @Eq EReal (res_main_v47 V0 (ix4 s v f r)) 1 := by
  have e : (tmask V0 (ix2 s f) * imask V0 (ix2 v r) : EReal) = 1 := by rw [ht, hi, one_mul]
  refine Eq.trans ?_ e
  pointwise [res_main_v47]

/-- The masked inner products are the inner products. -/
theorem inner_at (ht : ∀ j, tmask V0 j = 1) (hi : ∀ j, imask V0 j = 1) (s v : Fin 8) (f : Fin 64) (r : Fin 36) :
    @Eq EReal (res_main_v48 V0 (ix4 s v f r)) (∑ k, doc V0 (ix3 s f k) * img V0 (ix3 v r k)) := by
  unfold res_main_v48
  have hk := mask_at V0 ht hi s v f r
  obtain ⟨y, hy⟩ : ∃ z : FVec Ideal S8x8x64x36 .f32, res_main_v47 V0 = z := ⟨_, rfl⟩
  rw [hy] at hk ⊢
  pointwise
  rw [hk, mul_one]
  exact Finset.sum_congr rfl fun k _ => mul_comm (G := EReal) _ _

/-- The attention table at one entry. -/
theorem att_at (ht : ∀ j, tmask V0 j = 1) (hi : ∀ j, imask V0 j = 1) (s v : Fin 8) (f : Fin 64) (r : Fin 36) :
    @Eq EReal (res_main_v51 V0 (ix4 s v f r)) (att (fun f k => doc V0 (ix3 s f k)) (fun r k => img V0 (ix3 v r k)) f r) := by
  unfold res_main_v51 att
  rw [← inner_at V0 ht hi]
  obtain ⟨y, hy⟩ : ∃ z : FVec Ideal S8x8x64x36 .f32, res_main_v48 V0 = z := ⟨_, rfl⟩
  rw [hy]
  pointwise
  rfl

/-- The grounding score of one document and one image. -/
theorem ground_at (ht : ∀ j, tmask V0 j = 1) (hi : ∀ j, imask V0 j = 1) (s v : Fin 8) :
    (res_main_v83 V0 : FVec Ideal S8x8 .f32) (ix2 s v)
      = ground (att (fun f k => doc V0 (ix3 s f k)) (fun r k => img V0 (ix3 v r k))) := by
  have hk := mask_at V0 ht hi s v
  have ha := att_at V0 ht hi s v
  have hb : ∀ f r, @Eq EReal (res_main_v54 V0 (ix4 s v f r))
      (att (fun f k => doc V0 (ix3 s f k)) (fun r k => img V0 (ix3 v r k)) f r) := fun f r => by
    have e := ha f r
    unfold res_main_v54
    obtain ⟨y, hy⟩ : ∃ z : FVec Ideal S8x8x64x36 .f32, res_main_v51 V0 = z := ⟨_, rfl⟩
    rw [hy] at e ⊢
    have o := hi (ix2 v r)
    rw [← mul_one (att _ _ _ _), ← e, ← o]
    pointwise
  unfold res_main_v83 res_main_v61 res_main_v75
  obtain ⟨z, hz⟩ : ∃ z : FVec Ideal S8x8x64x36 .f32, res_main_v51 V0 = z := ⟨_, rfl⟩
  obtain ⟨z', hz'⟩ : ∃ z : FVec Ideal S8x8x64x36 .f32, res_main_v54 V0 = z := ⟨_, rfl⟩
  obtain ⟨y, hy⟩ : ∃ z : FVec Ideal S8x8x64x36 .f32, res_main_v47 V0 = z := ⟨_, rfl⟩
  rw [hz] at ha
  rw [hz'] at hb
  rw [hy] at hk
  rw [hz, hz', hy]
  have hm : ∀ f, maximumf (broadcastInDim S8x8x64 ![] bcast_S_S8x8x64 (constant (F := Ideal) S_ .f32 0xFF800000#32))
      (Host.reduce (FloatOps.maximumf (F := Ideal) (φ := .f32)) z' (constant S_ .f32 0xFF800000#32) reducesTo_S8x8x64x36_S8x8x64_d3 h_S_) (ix3 s v f)
        = rowMax fun r => z' (ix4 s v f r) := fun f => by
    refine Eq.trans ?_ (max_rowMax _)
    unfold rowMax
    pointwise
  have hm' : ∀ r, maximumf (broadcastInDim S8x8x36 ![] bcast_S_S8x8x36 (constant (F := Ideal) S_ .f32 0xFF800000#32))
      (Host.reduce (FloatOps.maximumf (F := Ideal) (φ := .f32)) z (constant S_ .f32 0xFF800000#32) reducesTo_S8x8x64x36_S8x8x36_d2 h_S_) (ix3 s v r)
        = rowMax fun f => z (ix4 s v f r) := fun r => by
    refine Eq.trans ?_ (max_rowMax _)
    unfold rowMax
    pointwise
  generalize maximumf (F := Ideal) (φ := .f32) (broadcastInDim S8x8x64 _ _ _) _ = top at hm ⊢
  generalize maximumf (F := Ideal) (φ := .f32) (broadcastInDim S8x8x36 _ _ _) _ = top' at hm' ⊢
  have swap : ∀ x c, Host.reduceAdd (F := Ideal) (φ := .f32) x c reducesTo_S8x8x64x36_S8x8_d3_2 h_S_
      = Host.reduceAdd x c (by decide : S8x8x64x36.ReducesTo [2, 3] S8x8) h_S_ := fun _ _ => rfl
  simp only [swap]
  pointwise
  unfold ground soft
  simp only [hm, hm', ha, hb, hk, mul_one]

end Cert.ReferenceIdeal.Pure

end
-- ==== Proof.RefC.lean ====
module

public import proofs.«01_k».proof.Proof.RefA
public import Idealize.ShloMosaic.Lib.Pointwise
public import Idealize.ShloMosaic.Lib.IdealHost

/-! The reference's pair scores and agreement table read at one entry. -/

@[expose] public section

set_option maxRecDepth 16384

noncomputable section

namespace Cert.ReferenceIdeal.Pure

open Idealize.ShloMosaic Idealize.ShloMosaic.StableHlo
open Cert.ReferenceIdeal Cert.ReferenceIdeal.Gen Cert.ReferenceIdeal.Value
open Cert.Spec

variable (V0 : Valuation τ sig (Elt Ideal))

/-- The score of one pair of spans. -/
theorem pair_at (s v : Fin 8) (i j : Fin 16) :
    (res_main_v116 V0 : FVec Ideal S8x8x16x16 .f32) (ix4 s v i j)
      = pair (fun d => (res_main_v40 V0 : FVec Ideal S8x16x2324 .f32) (ix3 s i d))
        (fun d => (res_main_v40 V0 : FVec Ideal S8x16x2324 .f32) (ix3 v j d))
        (fun d h => pw1 V0 (ix2 d h)) (fun h => pb1 V0 (ix1 h)) (fun h k => pw2 V0 (ix2 h k)) (fun h => pb2 V0 (ix1 h))
        (fun k => pw3 V0 (ix2 k 0)) (pb3 V0 (ix1 0)) := by
  unfold res_main_v116
  obtain ⟨z, hz⟩ : ∃ z : FVec Ideal S8x16x2324 .f32, res_main_v40 V0 = z := ⟨_, rfl⟩
  rw [hz]
  unfold pair
  pointwise

/-- A full span mask counts sixteen spans. -/
theorem count_at (hs : ∀ j, smask V0 j = 1) (s : Fin 8) : @Eq EReal (res_main_v117 V0 (ix1 s)) 16 := by
  have h : (∑ i : Fin 16, smask V0 (ix2 s i) : EReal) = 16 := by simp only [hs]; simp
  refine Eq.trans ?_ h
  pointwise [res_main_v117]

/-- The word of the float two. -/
theorem two_f32 : Ideal.ofBits .f32 0x40000000#32 = 2 := by
  have h : Ideal.ofBits .f32 0x40000000#32 = ((2 : ℝ) : EReal) := by
    simp [Ideal.ofBits, Ideal.ieee, -EReal.coe_mul]; norm_num
  exact h

/-- The agreement of two documents' spans. -/
theorem agree_at (hs : ∀ j, smask V0 j = 1) (s v : Fin 8) :
    (res_main_v144 V0 : FVec Ideal S8x8 .f32) (ix2 s v)
      = agree fun i j => (res_main_v116 V0 : FVec Ideal S8x8x16x16 .f32) (ix4 s v i j) := by
  unfold res_main_v144
  have hn := count_at V0 hs
  obtain ⟨z, hz⟩ : ∃ z : FVec Ideal S8x8x16x16 .f32, res_main_v116 V0 = z := ⟨_, rfl⟩
  obtain ⟨n, hn'⟩ : ∃ z : FVec Ideal S8 .f32, res_main_v117 V0 = z := ⟨_, rfl⟩
  obtain ⟨k, hk⟩ : ∃ z : FVec Ideal S8x16 .f32, smask V0 = z := ⟨_, rfl⟩
  rw [hz, hn']
  rw [hn'] at hn
  unfold smask at hk hs
  rw [hk] at hs ⊢
  unfold agree rowMax
  pointwise
  simp only [hn, hs, mul_one, two_f32, zero_lt_one, ↓reduceIte]

end Cert.ReferenceIdeal.Pure

end
-- ==== Proof.RefD.lean ====
module

public import proofs.«01_k».proof.Proof.RefB
public import proofs.«01_k».proof.Proof.RefC
public import Idealize.ShloMosaic.Lib.Pointwise
public import Idealize.ShloMosaic.Lib.IdealHost

/-! The reference's loss, from its two tables and then from its arguments. -/

@[expose] public section

set_option maxRecDepth 16384

noncomputable section

namespace Cert.ReferenceIdeal.Pure

open Idealize.ShloMosaic Idealize.ShloMosaic.StableHlo
open Cert.ReferenceIdeal Cert.ReferenceIdeal.Gen Cert.ReferenceIdeal.Value
open Cert.Spec

variable (V0 : Valuation τ sig (Elt Ideal))

/-- The softmax of every row of a table, as the reference computes it. -/
def softmax (x : FVec Ideal S8x8 .f32) : FVec Ideal S8x8 .f32 :=
  let e := Host.exp (subf x (broadcastInDim S8x8 ![0, 1] bcast_S8x1_S8x8_0_1 (broadcastInDim S8x1 ![0] bcast_S8_S8x1_0
    (maximumf (broadcastInDim S8 ![] bcast_S_S8 (constant S_ .f32 0xFF800000#32))
      (Host.reduce (FloatOps.maximumf (F := Ideal) (φ := .f32)) x (constant S_ .f32 0xFF800000#32) reducesTo_S8x8_S8_d1 h_S_)))))
  Host.divf e (broadcastInDim S8x8 ![0, 1] bcast_S8x1_S8x8_0_1 (broadcastInDim S8x1 ![0] bcast_S8_S8x1_0
    (Host.reduceAdd e (constant S_ .f32 0x00000000#32) reducesTo_S8x8_S8_d1 h_S_)))

/-- That softmax at one entry. -/
theorem softmax_at (x : FVec Ideal S8x8 .f32) (s v : Fin 8) : softmax x (ix2 s v) = soft (fun v => x (ix2 s v)) v := by
  have hm : maximumf (broadcastInDim S8 ![] bcast_S_S8 (constant (F := Ideal) S_ .f32 0xFF800000#32))
      (Host.reduce (FloatOps.maximumf (F := Ideal) (φ := .f32)) x (constant S_ .f32 0xFF800000#32) reducesTo_S8x8_S8_d1 h_S_) (ix1 s)
        = rowMax fun v => x (ix2 s v) := by
    refine Eq.trans ?_ (max_rowMax _)
    unfold rowMax
    pointwise
  unfold softmax soft
  dsimp only
  generalize maximumf (F := Ideal) (φ := .f32) _ _ = top at hm ⊢
  pointwise
  simp only [hm]

/-- A transposed table at one entry. -/
theorem turned_at (x : FVec Ideal S8x8 .f32) (s v : Fin 8) :
    transpose S8x8 [1, 0] x transposes_S8x8_S8x8_1_0 (ix2 s v) = x (ix2 v s) := by
  pointwise

/-- The word of the float eight. -/
theorem eight_f32 : Ideal.ofBits .f32 0x41000000#32 = 8 := by
  have h : Ideal.ofBits .f32 0x41000000#32 = ((8 : ℝ) : EReal) := by
    simp [Ideal.ofBits, Ideal.ieee, -EReal.coe_mul]; norm_num
  exact h

/-- The reference's result from its grounding and agreement tables. -/
theorem loss_at : @Eq EReal (val4 V0 (Proc.devRef .tc main_v188) ix0)
    (loss (fun s v => (res_main_v83 V0 : FVec Ideal S8x8 .f32) (ix2 s v))
      (fun s v => (res_main_v144 V0 : FVec Ideal S8x8 .f32) (ix2 s v))) := by
  rw [val4_main_v188]
  unfold res_main_v151 res_main_v178 res_main_v174 res_main_v163 res_main_v156
  obtain ⟨g, hg⟩ : ∃ z : FVec Ideal S8x8 .f32, res_main_v83 V0 = z := ⟨_, rfl⟩
  obtain ⟨a, ha⟩ : ∃ z : FVec Ideal S8x8 .f32, res_main_v144 V0 = z := ⟨_, rfl⟩
  rw [hg, ha]
  show @Eq EReal (Host.divf (Host.negf (Host.reduceAdd (addf
      (Host.log (Host.reduceAdd (mulf (softmax g) (softmax a)) (constant S_ .f32 0x00000000#32) reducesTo_S8x8_S8_d1 h_S_))
      (Host.log (Host.reduceAdd (mulf (softmax (transpose S8x8 [1, 0] g transposes_S8x8_S8x8_1_0)) (softmax a))
        (constant S_ .f32 0x00000000#32) reducesTo_S8x8_S8_d1 h_S_))) (constant S_ .f32 0x00000000#32) reducesTo_S8_S_d0 h_S_))
      (constant S_ .f32 0x41000000#32) ix0) _
  have h0 := softmax_at g
  have h1 : ∀ s v, softmax (transpose S8x8 [1, 0] g transposes_S8x8_S8x8_1_0) (ix2 s v) = soft (fun v => g (ix2 v s)) v := fun s v =>
    (softmax_at _ s v).trans (congrArg (fun f : Fin 8 → EReal => soft f v) (funext fun v' => turned_at g s v'))
  have h2 := softmax_at a
  generalize softmax g = x0 at h0 ⊢
  generalize softmax (transpose S8x8 [1, 0] g transposes_S8x8_S8x8_1_0) = x1 at h1 ⊢
  generalize softmax a = x2 at h2 ⊢
  unfold loss
  pointwise
  simp only [h0, h1, h2, eight_f32, Finset.sum_add_distrib]

/-- The reference's result, from its arguments: with full masks it is the loss of the problem. -/
theorem answer_at (ht : ∀ j, tmask V0 j = 1) (hi : ∀ j, imask V0 j = 1) (hs : ∀ j, smask V0 j = 1) :
    @Eq EReal (val4 V0 (Proc.devRef .tc main_v188) ix0)
      (answer (fun s f k => doc V0 (ix3 s f k)) (fun v r k => img V0 (ix3 v r k)) (fun s i d => ends V0 (ix3 s i d))
        (fun s i t d => tokens V0 (ix4 s i t d)) (fun s i => width V0 (ix2 s i)) (fun d h => aw1 V0 (ix2 d h))
        (fun h => ab1 V0 (ix1 h)) (fun h => aw2 V0 (ix2 h 0)) (ab2 V0 (ix1 0)) (fun r d => wtable V0 (ix2 r d))
        (fun d h => pw1 V0 (ix2 d h)) (fun h => pb1 V0 (ix1 h)) (fun h k => pw2 V0 (ix2 h k)) (fun h => pb2 V0 (ix1 h))
        (fun k => pw3 V0 (ix2 k 0)) (pb3 V0 (ix1 0))) := by
  rw [loss_at]
  unfold answer
  simp only [ground_at V0 ht hi, agree_at V0 hs, pair_at, span_at]

end Cert.ReferenceIdeal.Pure

end
-- ==== Proof.lean ====
module

public import proofs.«01_k».proof.Defs
public import proofs.«01_k».proof.Proof.KFrame
public import proofs.«01_k».proof.Proof.Chain
public import proofs.«01_k».proof.Proof.RefD
public import Idealize.ShloMosaic.Lib.Quiescent

/-! The certificate: the frames of the kernel at machine words, of the kernel at exact numbers and of the reference, that
the kernel at exact numbers is the same text, and that its result is the reference's. Both results are the one loss of
`Cert.Spec.answer`, each read off its own program's run. -/

@[expose] public section

set_option maxRecDepth 16384
set_option maxHeartbeats 1600000

noncomputable section

namespace Cert.Proof

open Idealize.ShloMosaic Idealize.ShloMosaic.StableHlo Idealize.SL.Sem

attribute [local instance] Cert.Kernel.Gen.facts
attribute [local instance] Cert.KernelIdeal.Gen.facts
attribute [local instance] Cert.ReferenceIdeal.Gen.facts

/-- The shape relations the precondition states. -/
theorem pre_facts : Cert.Pre_full_masks.Facts := ⟨by decide, by decide, by decide⟩

attribute [local instance] pre_facts

/-- An array that compares equal to one everywhere is one everywhere. -/
theorem ones {s : Shape} (x : FVec Ideal s .f32) (h : (⟨0, ![]⟩ : Shape).BroadcastsInDim s ![])
    (e : cmpf .oeq x (broadcastInDim s ![] h (constant (F := Ideal) ⟨0, ![]⟩ .f32 0x3F800000#32)) = fun _ => 1#1) (j : s.Idx) :
    x j = 1 := by
  have o : Ideal.cmp .oeq (x j) (Ideal.ofBits .f32 0x3F800000#32) = 1#1 := congrFun e j
  exact ((Ideal.cmp_oeq_eq_one _ _).1 o).trans Ideal.ofBits_one_f32

/-- An array of words that compares at least zero everywhere has no negative word. -/
theorem nonneg {s : Shape} (x : IVec s 32) (h : (⟨0, ![]⟩ : Shape).BroadcastsInDim s ![])
    (e : cmpi .sge x (broadcastInDim s ![] h (constantI ⟨0, ![]⟩ 32 0#32)) = fun _ => 1#1) (j : s.Idx) : 0 ≤ (x j).toInt := by
  have o : BitVec.ofBool (decide ((0#32 : BitVec 32).toInt ≤ (x j).toInt)) = 1#1 := congrFun e j
  by_contra hn
  have hn : ¬(0#32 : BitVec 32).toInt ≤ (x j).toInt := hn
  rw [decide_eq_false hn] at o
  exact absurd o (by decide)

/-- The frame of the reference: it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- With full masks and widths that aren't negative, the kernel and the reference end with the same loss. -/
theorem same_loss : Cert.algebraic_KernelIdeal_ReferenceIdeal_pre_full_masks := by
  intro m g m' g' hpre hagree
  refine ⟨fun c => Cert.KernelIdeal.Run.W6 m g c (Proc.tc.devRef Cert.KernelIdeal.main_v15), ?_, ?_⟩
  · exact (θ_run Cert.KernelIdeal.defs _ _).mono
      (fun r h c => ⟨h.1.1 c _ (Cert.KernelIdeal.Run.mem_uc Cert.KernelIdeal.main_v15 (by decide)), h.2.1 c⟩)
      (θ_run_and (Cert.KernelIdeal.Run.final m g) (Cert.KernelIdeal.Run.frame m g))
  · refine (θ_run Cert.ReferenceIdeal.defs _ _).mono
      (fun r h c => ⟨(h c).1.trans ((Cert.ReferenceIdeal.Value.val4_main_v188 _).symm.trans ?_), (h c).2⟩)
      (Cert.ReferenceIdeal.Value.run (F := Ideal) m' g')
    obtain ⟨p2, p3, p7, p6⟩ := hpre c
    obtain ⟨e0, e1, e2, e3, e4, e5, e6, e7, e8, e9, e10, e11, e12, e13, e14, e15, e16, e17, e18⟩ := hagree c
    replace e0 : Cert.ReferenceIdeal.Pure.doc (launchContents m' c) = Cert.KernelIdeal.Run.doc m c := e0
    replace e1 : Cert.ReferenceIdeal.Pure.img (launchContents m' c) = Cert.KernelIdeal.Run.img m c := e1
    have o2 : ∀ j, Cert.ReferenceIdeal.Pure.tmask (launchContents m' c) j = 1 := fun j => (congrFun e2 j).trans (ones _ _ p2 j)
    have o3 : ∀ j, Cert.ReferenceIdeal.Pure.imask (launchContents m' c) j = 1 := fun j => (congrFun e3 j).trans (ones _ _ p3 j)
    replace e4 : Cert.ReferenceIdeal.Pure.ends (launchContents m' c) = Cert.KernelIdeal.Run.ends m c := e4
    replace e5 : Cert.ReferenceIdeal.Pure.tokens (launchContents m' c) = Cert.KernelIdeal.Run.tokens m c := e5
    replace e6 : Cert.ReferenceIdeal.Pure.width (launchContents m' c) = Cert.KernelIdeal.Run.width m c := e6
    have o7 : ∀ j, Cert.ReferenceIdeal.Pure.smask (launchContents m' c) j = 1 := fun j => (congrFun e7 j).trans (ones _ _ p7 j)
    replace e8 : Cert.ReferenceIdeal.Pure.aw1 (launchContents m' c) = Cert.KernelIdeal.Run.aw1 m c := e8
    replace e9 : Cert.ReferenceIdeal.Pure.ab1 (launchContents m' c) = Cert.KernelIdeal.Run.ab1 m c := e9
    replace e10 : Cert.ReferenceIdeal.Pure.aw2 (launchContents m' c) = Cert.KernelIdeal.Run.aw2 m c := e10
    replace e11 : Cert.ReferenceIdeal.Pure.ab2 (launchContents m' c) = Cert.KernelIdeal.Run.ab2 m c := e11
    replace e12 : Cert.ReferenceIdeal.Pure.wtable (launchContents m' c) = Cert.KernelIdeal.Run.wtable m c := e12
    replace e13 : Cert.ReferenceIdeal.Pure.pw1 (launchContents m' c) = Cert.KernelIdeal.Run.pw1 m c := e13
    replace e14 : Cert.ReferenceIdeal.Pure.pb1 (launchContents m' c) = Cert.KernelIdeal.Run.pb1 m c := e14
    replace e15 : Cert.ReferenceIdeal.Pure.pw2 (launchContents m' c) = Cert.KernelIdeal.Run.pw2 m c := e15
    replace e16 : Cert.ReferenceIdeal.Pure.pb2 (launchContents m' c) = Cert.KernelIdeal.Run.pb2 m c := e16
    replace e17 : Cert.ReferenceIdeal.Pure.pw3 (launchContents m' c) = Cert.KernelIdeal.Run.pw3 m c := e17
    replace e18 : Cert.ReferenceIdeal.Pure.pb3 (launchContents m' c) = Cert.KernelIdeal.Run.pb3 m c := e18
    have hw : ∀ j, 0 ≤ (Cert.KernelIdeal.Run.width m c j).toInt := nonneg _ _ p6
    refine funext fun j => ?_
    have hj : j = ix0 := funext fun a => a.elim0
    rw [hj]
    refine Eq.trans ?_ (Cert.KernelIdeal.Run.answer_at m g c hw).symm
    rw [← e0, ← e1, ← e4, ← e5, ← e6, ← e8, ← e9, ← e10, ← e11, ← e12, ← e13, ← e14, ← e15, ← e16, ← e17, ← e18]
    exact Cert.ReferenceIdeal.Pure.answer_at (launchContents m' c) o2 o3 o7

/-- The whole claim. -/
theorem claim : Cert.Claim :=
  ⟨Cert.Kernel.Gen.facts, Cert.KernelIdeal.Gen.facts, Cert.ReferenceIdeal.Gen.facts, pre_facts, frame_bits,
    fun m g _ => Cert.KernelIdeal.Run.frame m g, fun m g _ => Cert.KernelIdeal.Run.frame m g, frame_reference,
    fun m g _ => frame_reference m g trivial, trivial, same_loss⟩

end Cert.Proof

end
